-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_finite_KernelIdeal [hPre_scores_finite_KernelIdeal : Cert.Pre_scores_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_scores_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_finite_ReferenceIdeal [hPre_scores_finite_ReferenceIdeal : Cert.Pre_scores_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_scores_finite_KernelIdeal [hKernelIdeal : Cert.KernelIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_scores_finite_ReferenceIdeal [hReferenceIdeal : Cert.ReferenceIdeal.Facts] [hPre_scores_finite_ReferenceIdeal : Cert.Pre_scores_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_scores_finite_KernelIdeal [hKernelIdeal : Cert.KernelIdeal.Facts] [hReferenceIdeal : Cert.ReferenceIdeal.Facts] [hPre_scores_finite_KernelIdeal : Cert.Pre_scores_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 512, 8, 64]⟩ ⟨4, ![2, 512, 32, 64]⟩ 2 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v49) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_scores_finite_KernelIdeal : Cert.Pre_scores_finite_KernelIdeal.Facts) (hPre_scores_finite_ReferenceIdeal : Cert.Pre_scores_finite_ReferenceIdeal.Facts),
    quiescent_Kernel (hKernel := hKernel)
    ∧ quiescent_KernelIdeal (hKernelIdeal := hKernelIdeal)
    ∧ quiescent_KernelIdeal_pre_scores_finite_KernelIdeal (hKernelIdeal := hKernelIdeal) (hPre_scores_finite_KernelIdeal := hPre_scores_finite_KernelIdeal)
    ∧ quiescent_ReferenceIdeal (hReferenceIdeal := hReferenceIdeal)
    ∧ quiescent_ReferenceIdeal_pre_scores_finite_ReferenceIdeal (hReferenceIdeal := hReferenceIdeal) (hPre_scores_finite_ReferenceIdeal := hPre_scores_finite_ReferenceIdeal)
    ∧ preserves_Kernel_KernelIdeal
    ∧ algebraic_KernelIdeal_ReferenceIdeal_pre_scores_finite_KernelIdeal (hKernelIdeal := hKernelIdeal) (hReferenceIdeal := hReferenceIdeal) (hPre_scores_finite_KernelIdeal := hPre_scores_finite_KernelIdeal)
-- ==== Pre_scores_finite_KernelIdeal.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x8x64 : S_.BroadcastsInDim S2x512x8x64 (![] : Fin 0 → Fin S2x512x8x64.rank)
  reducesTo_S2x512x8x64_S_d0_1_2_3 : S2x512x8x64.ReducesTo [0, 1, 2, 3] S_

variable [Facts]

def fn {F : FTy → Type} [FloatOps F] (main_arg0 : FVec F S2x512x768 .bf16) (main_arg1 : FVec F S768x2048 .bf16) (main_arg2 : FVec F S2x512x8x64 .bf16) (main_arg3 : FVec F S2x512x8x64 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x8x64 .f32 := (extf .f32 · bitsLt_bf16_f32) main_arg2
  let main_v12 : FVec F S2x512x8x64 .f32 := Host.absf main_v11
  let main_cst_2 : FVec F S_ .f32 := constant S_ .f32 0x7F800000#32
  let main_v13 : FVec F S2x512x8x64 .f32 := broadcastInDim S2x512x8x64 ![] bcast_S_S2x512x8x64 main_cst_2
  let main_v14 : IVec S2x512x8x64 1 := cmpf .olt main_v12 main_v13
  let main_c_3 : IVec S_ 1 := constantI S_ 1 1#1
  let main_v15 : IVec S_ 1 := (fun x v => Host.reduce IntOp.andi x v reducesTo_S2x512x8x64_S_d0_1_2_3 h_S_) main_v14 main_c_3
  let main_v16 : IVec S_ 1 := andi main_v10 main_v15
  main_v16
-- ==== Pre_scores_finite_ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S_ : Shape := ⟨0, ![]⟩

class Facts : Prop where
  bitsLt_bf16_f32 : FTy.bits .bf16 < FTy.bits .f32
  bcast_S_S2x512x768 : S_.BroadcastsInDim S2x512x768 (![] : Fin 0 → Fin S2x512x768.rank)
  reducesTo_S2x512x768_S_d0_1_2 : S2x512x768.ReducesTo [0, 1, 2] S_
  h_S_ : 0 < S_.numel
  bcast_S_S768x2048 : S_.BroadcastsInDim S768x2048 (![] : Fin 0 → Fin S768x2048.rank)
  reducesTo_S768x2048_S_d0_1 : S768x2048.ReducesTo [0, 1] S_
  bcast_S_S2x512x32x64 : S_.BroadcastsInDim S2x512x32x64 (![] : Fin 0 → Fin S2x512x32x64.rank)
  reducesTo_S2x512x32x64_S_d0_1_2_3 : S2x512x32x64.ReducesTo [0, 1, 2, 3] S_

variable [Facts]

def fn {F : FTy → Type} [FloatOps F] (main_arg0 : FVec F S2x512x768 .bf16) (main_arg1 : FVec F S768x2048 .bf16) (main_arg2 : FVec F S2x512x32x64 .bf16) (main_arg3 : FVec F S2x512x32x64 .bf16) (main_arg4 : FVec F S2048x768 .bf16) : IVec S_ 1 :=
  let main_v0 : FVec F S2x512x768 .f32 := (extf .f32 · bitsLt_bf16_f32) main_arg0
  let main_v1 : FVec F S2x512x768 .f32 := Host.absf main_v0
  let main_cst : FVec F S_ .f32 := constant S_ .f32 0x7F800000#32
  let main_v2 : FVec F S2x512x768 .f32 := broadcastInDim S2x512x768 ![] bcast_S_S2x512x768 main_cst
  let main_v3 : IVec S2x512x768 1 := cmpf .olt main_v1 main_v2
  let main_c : IVec S_ 1 := constantI S_ 1 1#1
  let main_v4 : IVec S_ 1 := (fun x v => Host.reduce IntOp.andi x v reducesTo_S2x512x768_S_d0_1_2 h_S_) main_v3 main_c
  let main_v5 : FVec F S768x2048 .f32 := (extf .f32 · bitsLt_bf16_f32) main_arg1
  let main_v6 : FVec F S768x2048 .f32 := Host.absf main_v5
  let main_cst_0 : FVec F S_ .f32 := constant S_ .f32 0x7F800000#32
  let main_v7 : FVec F S768x2048 .f32 := broadcastInDim S768x2048 ![] bcast_S_S768x2048 main_cst_0
  let main_v8 : IVec S768x2048 1 := cmpf .olt main_v6 main_v7
  let main_c_1 : IVec S_ 1 := constantI S_ 1 1#1
  let main_v9 : IVec S_ 1 := (fun x v => Host.reduce IntOp.andi x v reducesTo_S768x2048_S_d0_1 h_S_) main_v8 main_c_1
  let main_v10 : IVec S_ 1 := andi main_v4 main_v9
  let main_v11 : FVec F S2x512x32x64 .f32 := (extf .f32 · bitsLt_bf16_f32) main_arg2
  let main_v12 : FVec F S2x512x32x64 .f32 := Host.absf main_v11
  let main_cst_2 : FVec F S_ .f32 := constant S_ .f32 0x7F800000#32
  let main_v13 : FVec F S2x512x32x64 .f32 := broadcastInDim S2x512x32x64 ![] bcast_S_S2x512x32x64 main_cst_2
  let main_v14 : IVec S2x512x32x64 1 := cmpf .olt main_v12 main_v13
  let main_c_3 : IVec S_ 1 := constantI S_ 1 1#1
  let main_v15 : IVec S_ 1 := (fun x v => Host.reduce IntOp.andi x v reducesTo_S2x512x32x64_S_d0_1_2_3 h_S_) main_v14 main_c_3
  let main_v16 : IVec S_ 1 := andi main_v10 main_v15
  main_v16
-- ==== Kernel.lean ====
abbrev S2x512x768 : Shape := ⟨3, ![2, 512, 768]⟩
abbrev S768x2048 : Shape := ⟨2, ![768, 2048]⟩
abbrev S2x512x8x64 : Shape := ⟨4, ![2, 512, 8, 64]⟩
abbrev S2048x768 : Shape := ⟨2, ![2048, 768]⟩
abbrev S4x4x512x256 : Shape := ⟨4, ![4, 4, 512, 256]⟩
abbrev S4x3 : Shape := ⟨2, ![4, 3]⟩
abbrev S_ : Shape := ⟨0, ![]⟩
abbrev S1024x768 : Shape := ⟨2, ![1024, 768]⟩
abbrev S768x512 : Shape := ⟨2, ![768, 512]⟩
abbrev S1024x512 : Shape := ⟨2, ![1024, 512]⟩
abbrev S512x512 : Shape := ⟨2, ![512, 512]⟩
abbrev S512x64 : Shape := ⟨2, ![512, 64]⟩
abbrev S1x512x1x64 : Shape := ⟨4, ![1, 512, 1, 64]⟩
abbrev S512 : Shape := ⟨1, ![512]⟩
abbrev S512x1 : Shape := ⟨2, ![512, 1]⟩
abbrev S1x1x512x64 : Shape := ⟨4, ![1, 1, 512, 64]⟩
abbrev S1x1 : Shape := ⟨2, ![1, 1]⟩
abbrev S1x1x512x256 : Shape := ⟨4, ![1, 1, 512, 256]⟩
abbrev S512x256 : Shape := ⟨2, ![512, 256]⟩
abbrev S256x768 : Shape := ⟨2, ![256, 768]⟩
abbrev S512x768 : Shape := ⟨2, ![512, 768]⟩
abbrev S1x512x768 : Shape := ⟨3, ![1, 512, 768]⟩

abbrev nBuf : Space → Nat
  | .hbm => 6
  | .vmem => 7
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x8x64, .bf16⟩
  | .hbm, ⟨3, _⟩ => ⟨S2x512x8x64, .bf16⟩
  | .hbm, ⟨4, _⟩ => ⟨S2048x768, .bf16⟩
  | .hbm, ⟨5, _⟩ => ⟨S2x512x768, .f32⟩
  | .local _ .vmem, ⟨0, _⟩ => ⟨S2x512x768, .bf16⟩
  | .local _ .vmem, ⟨1, _⟩ => ⟨S768x2048, .bf16⟩
  | .local _ .vmem, ⟨2, _⟩ => ⟨S2x512x8x64, .bf16⟩
  | .local _ .vmem, ⟨3, _⟩ => ⟨S2x512x8x64, .bf16⟩
  | .local _ .vmem, ⟨4, _⟩ => ⟨S2048x768, .bf16⟩
  | .local _ .vmem, ⟨5, _⟩ => ⟨S2x512x768, .f32⟩
  | .local _ .vmem, ⟨6, _⟩ => ⟨S4x4x512x256, .bf16⟩
  | _, _ => ⟨S2x512x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_8 : BitVec 32 := 1#32
  let v11 : BitVec 32 := Scalar.muli v7 c1_i32_8
  let v12 : BitVec 32 := Scalar.addi c0_i32_9 v11
  v12.toNat
def k0_off1 (d0 : Dev nD) : Fin 2 → Nat :=
  let c0_12 : Index := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v16 : BitVec 32 := Scalar.muli v2 c512_i32
  let v17 : Index := Scalar.indexCast v16
  ![0, v17.toNat]
def k0_dev3 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_97 : BitVec 32 := 1#32
  let v172 : BitVec 32 := Scalar.muli v7 c1_i32_97
  let v173 : BitVec 32 := Scalar.addi c0_i32_98 v172
  v173.toNat
def k0_dev4 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_171 : BitVec 32 := 1#32
  let v266 : BitVec 32 := Scalar.muli v5 c1_i32_171
  let v267 : BitVec 32 := Scalar.addi c0_i32_172 v266
  v267.toNat
def k0_dev5 (d0 : Dev nD) : Nat :=
  let c0_i32_250 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_249 : BitVec 32 := 1#32
  let v360 : BitVec 32 := Scalar.muli v7 c1_i32_249
  let v361 : BitVec 32 := Scalar.addi c0_i32_250 v360
  v361.toNat
def k0_dev6 (d0 : Dev nD) : Nat :=
  let c0_i32_278 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_277 : BitVec 32 := 1#32
  let v378 : BitVec 32 := Scalar.muli v7 c1_i32_277
  let v379 : BitVec 32 := Scalar.addi c0_i32_278 v378
  v379.toNat
def k0_dev7 (d0 : Dev nD) : Nat :=
  let c0_i32_356 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_355 : BitVec 32 := 1#32
  let v472 : BitVec 32 := Scalar.muli v5 c1_i32_355
  let v473 : BitVec 32 := Scalar.addi c0_i32_356 v472
  v473.toNat
def k0_dev8 (d0 : Dev nD) : Nat :=
  let c0_i32_384 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_383 : BitVec 32 := 1#32
  let v490 : BitVec 32 := Scalar.muli v5 c1_i32_383
  let v491 : BitVec 32 := Scalar.addi c0_i32_384 v490
  v491.toNat
def k0_off2 (d0 : Dev nD) (c0_i32_394 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_393 : BitVec 32 := 512#32
  let v502 : BitVec 32 := Scalar.muli v2 c512_i32_393
  let v503 : BitVec 32 := Scalar.addi v502 c0_i32_394
  let v504 : Index := Scalar.indexCast v503
  let c0_395 : Index := 0#32
  ![v504.toNat, 0]
def k0_dev9 (d0 : Dev nD) : Nat :=
  let c0_i32_443 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_442 : BitVec 32 := 1#32
  let v542 : BitVec 32 := Scalar.muli v7 c1_i32_442
  let v543 : BitVec 32 := Scalar.addi c0_i32_443 v542
  v543.toNat
def k0_off3 (d0 : Dev nD) (c0_i32_450 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_448 : BitVec 32 := 4#32
  let v552 : BitVec 32 := Scalar.addi v2 c4_i32_448
  let c1_i32_449 : BitVec 32 := 1#32
  let v553 : BitVec 32 := Scalar.subi v552 c1_i32_449
  let v554 : BitVec 32 := Scalar.subi v553 c0_i32_450
  let c4_i32_451 : BitVec 32 := 4#32
  let v555 : BitVec 32 := Scalar.remsi v554 c4_i32_451
  let c512_i32_456 : BitVec 32 := 512#32
  let v558 : BitVec 32 := Scalar.muli v555 c512_i32_456
  let c0_i32_457 : BitVec 32 := 0#32
  let v559 : BitVec 32 := Scalar.addi v558 c0_i32_457
  let v560 : Index := Scalar.indexCast v559
  let c0_458 : Index := 0#32
  ![v560.toNat, 0]
def k0_dev10 (d0 : Dev nD) : Nat :=
  let c0_i32_483 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_482 : BitVec 32 := 1#32
  let v573 : BitVec 32 := Scalar.muli v7 c1_i32_482
  let v574 : BitVec 32 := Scalar.addi c0_i32_483 v573
  v574.toNat
def k0_off4 (d0 : Dev nD) (c0_i32_489 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_488 : BitVec 32 := 1#32
  let v583 : BitVec 32 := Scalar.addi v2 c1_i32_488
  let v584 : BitVec 32 := Scalar.addi v583 c0_i32_489
  let c4_i32_490 : BitVec 32 := 4#32
  let v585 : BitVec 32 := Scalar.remsi v584 c4_i32_490
  let c512_i32_495 : BitVec 32 := 512#32
  let v588 : BitVec 32 := Scalar.muli v585 c512_i32_495
  let c256_i32_496 : BitVec 32 := 256#32
  let v589 : BitVec 32 := Scalar.addi v588 c256_i32_496
  let v590 : Index := Scalar.indexCast v589
  let c0_497 : Index := 0#32
  ![v590.toNat, 0]
def k0_dev11 (d0 : Dev nD) : Nat :=
  let c0_i32_522 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_521 : BitVec 32 := 1#32
  let v603 : BitVec 32 := Scalar.muli v5 c1_i32_521
  let v604 : BitVec 32 := Scalar.addi c0_i32_522 v603
  v604.toNat
def k0_dev12 (d0 : Dev nD) : Nat :=
  let c0_i32_562 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_561 : BitVec 32 := 1#32
  let v634 : BitVec 32 := Scalar.muli v5 c1_i32_561
  let v635 : BitVec 32 := Scalar.addi c0_i32_562 v634
  v635.toNat
def k0_dev13 (d0 : Dev nD) : Nat :=
  let c0_i32_601 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_600 : BitVec 32 := 1#32
  let v664 : BitVec 32 := Scalar.muli v7 c1_i32_600
  let v665 : BitVec 32 := Scalar.addi c0_i32_601 v664
  v665.toNat
def k0_dev14 (d0 : Dev nD) : Nat :=
  let c0_i32_666 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_665 : BitVec 32 := 1#32
  let v715 : BitVec 32 := Scalar.muli v5 c1_i32_665
  let v716 : BitVec 32 := Scalar.addi c0_i32_666 v715
  v716.toNat
abbrev stage0_0 : Fin 1 → Memref sig .tc .vmem S2x512x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x512x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x512x768 : Shape := ⟨3, ![2, 512, 768]⟩
abbrev S768x2048 : Shape := ⟨2, ![768, 2048]⟩
abbrev S2x512x32x64 : Shape := ⟨4, ![2, 512, 32, 64]⟩
abbrev S2048x768 : Shape := ⟨2, ![2048, 768]⟩
abbrev S2x512x2048 : Shape := ⟨3, ![2, 512, 2048]⟩
abbrev S512 : Shape := ⟨1, ![512]⟩
abbrev S_ : Shape := ⟨0, ![]⟩
abbrev S512x1 : Shape := ⟨2, ![512, 1]⟩
abbrev S1x512 : Shape := ⟨2, ![1, 512]⟩
abbrev S512x512 : Shape := ⟨2, ![512, 512]⟩
abbrev S2x32x512x512 : Shape := ⟨4, ![2, 32, 512, 512]⟩
abbrev S1x1x512x512 : Shape := ⟨4, ![1, 1, 512, 512]⟩
abbrev S2x32x512 : Shape := ⟨3, ![2, 32, 512]⟩
abbrev S2x32x512x1 : Shape := ⟨4, ![2, 32, 512, 1]⟩
abbrev S1x1x512x1 : Shape := ⟨4, ![1, 1, 512, 1]⟩
abbrev S2x32x64x512 : Shape := ⟨4, ![2, 32, 64, 512]⟩

abbrev nBuf : Space → Nat
  | .hbm => 128
  | .vmem => 0
  | .smem => 0
  | _ => 0

abbrev bufTy : (tb : Table) → Fin (tcTables nBuf tb) → BufTy
  | .hbm, ⟨0, _⟩ => ⟨S2x512x768, .bf16⟩
  | .hbm, ⟨1, _⟩ => ⟨S768x2048, .bf16⟩
  | .hbm, ⟨2, _⟩ => ⟨S2x512x32x64, .bf16⟩
  | .hbm, ⟨3, _⟩ => ⟨S2x512x32x64, .bf16⟩
  | .hbm, ⟨4, _⟩ => ⟨S2048x768, .bf16⟩
  | .hbm, ⟨5, _⟩ => ⟨S2x512x768, .f32⟩
  | .hbm, ⟨6, _⟩ => ⟨S768x2048, .f32⟩
  | .hbm, ⟨7, _⟩ => ⟨S2x512x32x64, .f32⟩
  | .hbm, ⟨8, _⟩ => ⟨S2x512x32x64, .f32⟩
  | .hbm, ⟨9, _⟩ => ⟨S2048x768, .f32⟩
  | .hbm, ⟨10, _⟩ => ⟨S2x512x2048, .f32⟩
  | .hbm, ⟨11, _⟩ => ⟨S2x512x32x64, .f32⟩
  | .hbm, ⟨12, _⟩ => ⟨S512, .i32⟩
  | .hbm, ⟨13, _⟩ => ⟨S_, .i32⟩
  | .hbm, ⟨14, _⟩ => ⟨S_, .i32⟩
  | .hbm, ⟨15, _⟩ => ⟨S512, .i32⟩
  | .hbm, ⟨16, _⟩ => ⟨S512, .i32⟩
  | .hbm, ⟨17, _⟩ => ⟨S512, .i32⟩
  | .hbm, ⟨18, _⟩ => ⟨S_, .i32⟩
  | .hbm, ⟨19, _⟩ => ⟨S512, .i32⟩
  | .hbm, ⟨20, _⟩ => ⟨S512, .i1⟩
  | .hbm, ⟨21, _⟩ => ⟨S512, .i32⟩
  | .hbm, ⟨22, _⟩ => ⟨S512, .i32⟩
  | .hbm, ⟨23, _⟩ => ⟨S_, .i32⟩
  | .hbm, ⟨24, _⟩ => ⟨S512, .i32⟩
  | .hbm, ⟨25, _⟩ => ⟨S512, .i1⟩
  | .hbm, ⟨26, _⟩ => ⟨S512, .i1⟩
  | .hbm, ⟨27, _⟩ => ⟨S_, .i32⟩
  | .hbm, ⟨28, _⟩ => ⟨S512, .i32⟩
  | .hbm, ⟨29, _⟩ => ⟨S512, .i32⟩
  | .hbm, ⟨30, _⟩ => ⟨S512, .i32⟩
  | .hbm, ⟨31, _⟩ => ⟨S512x1, .i32⟩
  | .hbm, ⟨32, _⟩ => ⟨S512, .i32⟩
  | .hbm, ⟨33, _⟩ => ⟨S_, .i32⟩
  | .hbm, ⟨34, _⟩ => ⟨S_, .i32⟩
  | .hbm, ⟨35, _⟩ => ⟨S512, .i32⟩
  | .hbm, ⟨36, _⟩ => ⟨S512, .i32⟩
  | .hbm, ⟨37, _⟩ => ⟨S512, .i32⟩
  | .hbm, ⟨38, _⟩ => ⟨S_, .i32⟩
  | .hbm, ⟨39, _⟩ => ⟨S512, .i32⟩
  | .hbm, ⟨40, _⟩ => ⟨S512, .i1⟩
  | .hbm, ⟨41, _⟩ => ⟨S512, .i32⟩
  | .hbm, ⟨42, _⟩ => ⟨S512, .i32⟩
  | .hbm, ⟨43, _⟩ => ⟨S_, .i32⟩
  | .hbm, ⟨44, _⟩ => ⟨S512, .i32⟩
  | .hbm, ⟨45, _⟩ => ⟨S512, .i1⟩
  | .hbm, ⟨46, _⟩ => ⟨S512, .i1⟩
  | .hbm, ⟨47, _⟩ => ⟨S_, .i32⟩
  | .hbm, ⟨48, _⟩ => ⟨S512, .i32⟩
  | .hbm, ⟨49, _⟩ => ⟨S512, .i32⟩
  | .hbm, ⟨50, _⟩ => ⟨S512, .i32⟩
  | .hbm, ⟨51, _⟩ => ⟨S1x512, .i32⟩
  | .hbm, ⟨52, _⟩ => ⟨S512x512, .i32⟩
  | .hbm, ⟨53, _⟩ => ⟨S512x512, .i32⟩
  | .hbm, ⟨54, _⟩ => ⟨S512x512, .i1⟩
  | .hbm, ⟨55, _⟩ => ⟨S_, .i32⟩
  | .hbm, ⟨56, _⟩ => ⟨S1x512, .i32⟩
  | .hbm, ⟨57, _⟩ => ⟨S1x512, .i1⟩
  | .hbm, ⟨58, _⟩ => ⟨S512x512, .i1⟩
  | .hbm, ⟨59, _⟩ => ⟨S512x512, .i1⟩
  | .hbm, ⟨60, _⟩ => ⟨S512x512, .i32⟩
  | .hbm, ⟨61, _⟩ => ⟨S512x512, .i32⟩
  | .hbm, ⟨62, _⟩ => ⟨S512x512, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S512x512, .i32⟩
  | .hbm, ⟨70, _⟩ => ⟨S512x512, .i32⟩
  | .hbm, ⟨71, _⟩ => ⟨S_, .i32⟩
  | .hbm, ⟨72, _⟩ => ⟨S512x512, .i32⟩
  | .hbm, ⟨73, _⟩ => ⟨S512x512, .i1⟩
  | .hbm, ⟨74, _⟩ => ⟨S_, .i32⟩
  | .hbm, ⟨75, _⟩ => ⟨S512x512, .i32⟩
  | .hbm, ⟨76, _⟩ => ⟨S512x512, .i1⟩
  | .hbm, ⟨77, _⟩ => ⟨S_, .i32⟩
  | .hbm, ⟨78, _⟩ => ⟨S_, .i1⟩
  | .hbm, ⟨79, _⟩ => ⟨S512x512, .i1⟩
  | .hbm, ⟨80, _⟩ => ⟨S512x512, .i1⟩
  | .hbm, ⟨81, _⟩ => ⟨S512x512, .i1⟩
  | .hbm, ⟨82, _⟩ => ⟨S512x512, .i32⟩
  | .hbm, ⟨83, _⟩ => ⟨S512x512, .i32⟩
  | .hbm, ⟨84, _⟩ => ⟨S512x512, .i32⟩
  | .hbm, ⟨85, _⟩ => ⟨S_, .i32⟩
  | .hbm, ⟨86, _⟩ => ⟨S512x512, .i32⟩
  | .hbm, ⟨87, _⟩ => ⟨S512x512, .i1⟩
  | .hbm, ⟨88, _⟩ => ⟨S512x512, .i1⟩
  | .hbm, ⟨89, _⟩ => ⟨S2x32x512x512, .f32⟩
  | .hbm, ⟨90, _⟩ => ⟨S_, .f32⟩
  | .hbm, ⟨91, _⟩ => ⟨S2x32x512x512, .f32⟩
  | .hbm, ⟨92, _⟩ => ⟨S2x32x512x512, .f32⟩
  | .hbm, ⟨93, _⟩ => ⟨S1x1x512x512, .i1⟩
  | .hbm, ⟨94, _⟩ => ⟨S_, .f32⟩
  | .hbm, ⟨95, _⟩ => ⟨S_, .f32⟩
  | .hbm, ⟨96, _⟩ => ⟨S2x32x512x512, .i1⟩
  | .hbm, ⟨97, _⟩ => ⟨S2x32x512x512, .f32⟩
  | .hbm, ⟨98, _⟩ => ⟨S2x32x512x512, .f32⟩
  | .hbm, ⟨99, _⟩ => ⟨S_, .f32⟩
  | .hbm, ⟨100, _⟩ => ⟨S2x32x512, .f32⟩
  | .hbm, ⟨101, _⟩ => ⟨S2x32x512x1, .f32⟩
  | .hbm, ⟨102, _⟩ => ⟨S2x32x512x512, .f32⟩
  | .hbm, ⟨103, _⟩ => ⟨S2x32x512x512, .f32⟩
  | .hbm, ⟨104, _⟩ => ⟨S2x32x512x512, .f32⟩
  | .hbm, ⟨105, _⟩ => ⟨S_, .i1⟩
  | .hbm, ⟨106, _⟩ => ⟨S512, .i1⟩
  | .hbm, ⟨107, _⟩ => ⟨S1x1x512x1, .i1⟩
  | .hbm, ⟨108, _⟩ => ⟨S_, .f32⟩
  | .hbm, ⟨109, _⟩ => ⟨S2x32x512, .f32⟩
  | .hbm, ⟨110, _⟩ => ⟨S2x32x512x1, .f32⟩
  | .hbm, ⟨111, _⟩ => ⟨S_, .f32⟩
  | .hbm, ⟨112, _⟩ => ⟨S_, .f32⟩
  | .hbm, ⟨113, _⟩ => ⟨S2x32x512x1, .i1⟩
  | .hbm, ⟨114, _⟩ => ⟨S2x32x512x1, .f32⟩
  | .hbm, ⟨115, _⟩ => ⟨S2x32x512x1, .f32⟩
  | .hbm, ⟨116, _⟩ => ⟨S2x32x512x512, .f32⟩
  | .hbm, ⟨117, _⟩ => ⟨S2x32x512x512, .f32⟩
  | .hbm, ⟨118, _⟩ => ⟨S1x1x512x1, .i1⟩
  | .hbm, ⟨119, _⟩ => ⟨S_, .f32⟩
  | .hbm, ⟨120, _⟩ => ⟨S_, .f32⟩
  | .hbm, ⟨121, _⟩ => ⟨S2x32x512x512, .i1⟩
  | .hbm, ⟨122, _⟩ => ⟨S2x32x512x512, .f32⟩
  | .hbm, ⟨123, _⟩ => ⟨S2x32x512x512, .f32⟩
  | .hbm, ⟨124, _⟩ => ⟨S2x32x64x512, .f32⟩
  | .hbm, ⟨125, _⟩ => ⟨S2x512x32x64, .f32⟩
  | .hbm, ⟨126, _⟩ => ⟨S2x512x2048, .f32⟩
  | .hbm, ⟨127, _⟩ => ⟨S2x512x768, .f32⟩
  | _, _ => ⟨S2x512x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_c_0 : Ref sig .tc := ⟨.hbm, 33, rfl⟩
abbrev main_call1_v0 : Ref sig .tc := ⟨.hbm, 34, rfl⟩
abbrev main_call1_v1 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_c : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_call1_c_0 : Ref sig .tc := ⟨.hbm, 47, rfl⟩
abbrev main_call1_v12 : Ref sig .tc := ⟨.hbm, 48, rfl⟩
abbrev main_call1_v13 : Ref sig .tc := ⟨.hbm, 49, rfl⟩
abbrev main_v11 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_c_1 : Ref sig .tc := ⟨.hbm, 55, rfl⟩
abbrev main_v16 : Ref sig .tc := ⟨.hbm, 56, rfl⟩
abbrev main_v17 : Ref sig .tc := ⟨.hbm, 57, rfl⟩
abbrev main_v18 : Ref sig .tc := ⟨.hbm, 58, rfl⟩
abbrev main_v19 : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_c_2 : Ref sig .tc := ⟨.hbm, 63, rfl⟩
abbrev main_call2_v0 : Ref sig .tc := ⟨.hbm, 64, rfl⟩
abbrev main_call2_c : Ref sig .tc := ⟨.hbm, 65, rfl⟩
abbrev main_call2_v1 : Ref sig .tc := ⟨.hbm, 66, rfl⟩
abbrev main_call2_c_0 : Ref sig .tc := ⟨.hbm, 67, rfl⟩
abbrev main_call2_v2 : Ref sig .tc := ⟨.hbm, 68, rfl⟩
abbrev main_call2_v3 : Ref sig .tc := ⟨.hbm, 69, rfl⟩
abbrev main_call2_v4 : Ref sig .tc := ⟨.hbm, 70, rfl⟩
abbrev main_call2_c_1 : Ref sig .tc := ⟨.hbm, 71, rfl⟩
abbrev main_call2_v5 : Ref sig .tc := ⟨.hbm, 72, rfl⟩
abbrev main_call2_v6 : Ref sig .tc := ⟨.hbm, 73, rfl⟩
abbrev main_call2_c_2 : Ref sig .tc := ⟨.hbm, 74, rfl⟩
abbrev main_call2_v7 : Ref sig .tc := ⟨.hbm, 75, rfl⟩
abbrev main_call2_v8 : Ref sig .tc := ⟨.hbm, 76, rfl⟩
abbrev main_call2_c_3 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_v12 : Ref sig .tc := ⟨.hbm, 81, rfl⟩
abbrev main_call2_v13 : Ref sig .tc := ⟨.hbm, 82, rfl⟩
abbrev main_call2_v14 : Ref sig .tc := ⟨.hbm, 83, rfl⟩
abbrev main_v23 : Ref sig .tc := ⟨.hbm, 84, rfl⟩
abbrev main_c_3 : Ref sig .tc := ⟨.hbm, 85, rfl⟩
abbrev main_v24 : Ref sig .tc := ⟨.hbm, 86, rfl⟩
abbrev main_v25 : Ref sig .tc := ⟨.hbm, 87, rfl⟩
abbrev main_v26 : Ref sig .tc := ⟨.hbm, 88, rfl⟩
abbrev main_v27 : Ref sig .tc := ⟨.hbm, 89, rfl⟩
abbrev main_cst : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_cst_4 : Ref sig .tc := ⟨.hbm, 94, rfl⟩
abbrev main_call3_v0 : Ref sig .tc := ⟨.hbm, 95, rfl⟩
abbrev main_call3_v1 : Ref sig .tc := ⟨.hbm, 96, rfl⟩
abbrev main_call3_v2 : Ref sig .tc := ⟨.hbm, 97, rfl⟩
abbrev main_v31 : Ref sig .tc := ⟨.hbm, 98, rfl⟩
abbrev main_cst_5 : Ref sig .tc := ⟨.hbm, 99, rfl⟩
abbrev main_v32 : Ref sig .tc := ⟨.hbm, 100, rfl⟩
abbrev main_v33 : Ref sig .tc := ⟨.hbm, 101, rfl⟩
abbrev main_v34 : Ref sig .tc := ⟨.hbm, 102, rfl⟩
abbrev main_v35 : Ref sig .tc := ⟨.hbm, 103, rfl⟩
abbrev main_v36 : Ref sig .tc := ⟨.hbm, 104, rfl⟩
abbrev main_c_6 : Ref sig .tc := ⟨.hbm, 105, rfl⟩
abbrev main_v37 : Ref sig .tc := ⟨.hbm, 106, rfl⟩
abbrev main_v38 : Ref sig .tc := ⟨.hbm, 107, rfl⟩
abbrev main_cst_7 : Ref sig .tc := ⟨.hbm, 108, rfl⟩
abbrev main_v39 : Ref sig .tc := ⟨.hbm, 109, rfl⟩
abbrev main_v40 : Ref sig .tc := ⟨.hbm, 110, rfl⟩
abbrev main_cst_8 : Ref sig .tc := ⟨.hbm, 111, rfl⟩
abbrev main_call4_v0 : Ref sig .tc := ⟨.hbm, 112, rfl⟩
abbrev main_call4_v1 : Ref sig .tc := ⟨.hbm, 113, rfl⟩
abbrev main_call4_v2 : Ref sig .tc := ⟨.hbm, 114, rfl⟩
abbrev main_v41 : Ref sig .tc := ⟨.hbm, 115, rfl⟩
abbrev main_v42 : Ref sig .tc := ⟨.hbm, 116, rfl⟩
abbrev main_v43 : Ref sig .tc := ⟨.hbm, 117, rfl⟩
abbrev main_v44 : Ref sig .tc := ⟨.hbm, 118, rfl⟩
abbrev main_cst_9 : Ref sig .tc := ⟨.hbm, 119, rfl⟩
abbrev main_call5_v0 : Ref sig .tc := ⟨.hbm, 120, rfl⟩
abbrev main_call5_v1 : Ref sig .tc := ⟨.hbm, 121, rfl⟩
abbrev main_call5_v2 : Ref sig .tc := ⟨.hbm, 122, rfl⟩
abbrev main_v45 : Ref sig .tc := ⟨.hbm, 123, rfl⟩
abbrev main_v46 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩

abbrev nD : Nat := 1
abbrev τ : Topo := Topo.v7x

variable {F : FTy → Type} [FloatOps F]
-- ==== Proof.Body.lean ====
/- The kernel's body, written over ring and hop numbers.

   The printed body is one straight line of some two hundred memory operations. Here the same
   line is written from six building blocks, each over a ring `r` and a hop `h`: one head of the
   local attention, a send, a wait for a landing, one product of a received slot with its rows of
   the output weights, a wait for a send, and the store of a result. `body_eq` says that the printed
   body is this program, so that each building block is reasoned about once. -/
module

public import proofs.«01_k».proof.Proof.Gen.KernelIdeal
public import proofs.«01_k».proof.Proof.Gen.KernelIdeal.Skeleton
public import proofs.«01_k».proof.Proof.Gen.KernelIdeal.Launch

@[expose] public section

set_option synthInstance.maxSize 4096

noncomputable section

namespace Cert.RingAttn

open Idealize.ShloMosaic Idealize.ShloMosaic.TcCoe Idealize.SL.Sem
open Cert.KernelIdeal Cert.KernelIdeal.Gen

variable {F : FTy → Type} [FloatOps F] [Named F]

/-- Programs of the kernel on a TensorCore. -/
abbrev P (F : FTy → Type) [FloatOps F] := Prog (TpuEff nD τ sig (Elt F) Λ₀ .tc) PUnit

/-- The buffers the body works on: the five inputs, the result and the communication buffer. -/
abbrev mX : Memref sig .tc .vmem S2x512x768 .bf16 := Memref.whole cc0_stg0_0
abbrev mWq : Memref sig .tc .vmem S768x2048 .bf16 := Memref.whole cc0_stg1_0
abbrev mK : Memref sig .tc .vmem S2x512x8x64 .bf16 := Memref.whole cc0_stg2_0
abbrev mV : Memref sig .tc .vmem S2x512x8x64 .bf16 := Memref.whole cc0_stg3_0
abbrev mWo : Memref sig .tc .vmem S2048x768 .bf16 := Memref.whole cc0_stg4_0
abbrev mOut : Memref sig .tc .vmem S2x512x768 .f32 := Memref.whole cc0_stg5_0
abbrev mComm : Memref sig .tc .vmem S4x4x512x256 .bf16 := Memref.whole cc0_scratch0

/-- The batch of ring `r`, its half of a device's heads, and the head it works on `i`-th. -/
abbrev rb (r : Fin 4) : ℕ := r.val / 2
abbrev rh (r : Fin 4) : ℕ := r.val % 2
abbrev rhead (r i : Fin 4) : ℕ := 4 * (r.val % 2) + i.val

theorem slot_inb : ∀ r s : Fin 4, ∀ a, (![r.val, s.val, 0, 0] : Fin 4 → ℕ) a + S1x1x512x256.size a ≤ S4x4x512x256.size a := by decide
theorem col_inb : ∀ r i : Fin 4, ∀ a, (![r.val, 0, 0, 64 * i.val] : Fin 4 → ℕ) a + S1x1x512x64.size a ≤ S4x4x512x256.size a := by decide
theorem kv_inb : ∀ r i : Fin 4, ∀ a, (![rb r, 0, rhead r i, 0] : Fin 4 → ℕ) a + S1x512x1x64.size a ≤ S2x512x8x64.size a := by decide
theorem q_slices : ∀ r i : Fin 4, S1024x512.Slices ![512 * rb r, 64 * rhead r i] S512x64 := by decide
theorem sem_inb : ∀ (r : Fin 4) (h : Fin 3), ∀ a, (![r.val, h.val] : Fin 2 → ℕ) a + S1x1.size a ≤ S4x3.size a := by decide
theorem slot_words : ∀ r s : Fin 4, (Rect.unit (s := S4x4x512x256) ![r.val, s.val, 0, 0] S1x1x512x256.size (slot_inb r s)).WholeWords (EltTy.packing .bf16) := by decide
theorem col_packed : ∀ r i : Fin 4, (Rect.unit (s := S4x4x512x256) ![r.val, 0, 0, 64 * i.val] S1x1x512x64.size (col_inb r i)).PackedRows (EltTy.packing .bf16) := by decide

/-- Slot `s` of ring `r` of the communication buffer, as a matrix. -/
abbrev slotM (r s : Fin 4) : Memref sig .tc .vmem S512x256 .bf16 :=
  (mComm.slice (Rect.unit (s := S4x4x512x256) ![r.val, s.val, 0, 0] S1x1x512x256.size (slot_inb r s)) (fun _ => rfl)).squeeze S512x256 squeezes_S1x1x512x256_S512x256

theorem slotM_words (r s : Fin 4) : (slotM r s).view.WordExact :=
  (((Memref.isWhole_whole cc0_scratch0).wordExact_slice rfl _ (slot_words r s)).reshape _ _)

/-- The semaphore a send of ring `r`, hop `h` completes on at its source, and the one its landing
    completes on. -/
abbrev sSem (r : Fin 4) (h : Fin 3) : DmaSem sig :=
  ((cc0_scratch1.slice (Rect.unit (s := S4x3) ![r.val, h.val] S1x1.size (sem_inb r h))).squeeze S_ squeezes_S1x1_S_).sem
abbrev rSem (r : Fin 4) (h : Fin 3) : DmaSem sig :=
  ((cc0_scratch2.slice (Rect.unit (s := S4x3) ![r.val, h.val] S1x1.size (sem_inb r h))).squeeze S_ squeezes_S1x1_S_).sem

/-- The attention of one head: the scores of the queries against the head's keys, masked by `bias`,
    their exponentials, and the values weighted by them over their row sums. -/
def headVal (r i : Fin 4) (q : FVec F S1024x512 .bf16) (bias : FVec F S512x512 .bf16)
    (kk vv : Vec F S1x512x1x64 .bf16) : FVec F S1x1x512x64 .bf16 :=
  let qh : FVec F S512x64 .bf16 := extractStridedSlice S512x64 ![512 * rb r, 64 * rhead r i] q (q_slices r i)
  let kh : FVec F S512x64 .bf16 := shapeCast S512x64 kk shapeCasts_S1x512x1x64_S512x64
  let vh : FVec F S512x64 .bf16 := shapeCast S512x64 vv shapeCasts_S1x512x1x64_S512x64
  let s : FVec F S512x512 .f32 := matmul dot_S512x64_S512x64_S512x512_1_1_0_0_n_n none qh kh (constant S512x512 .f32 0x00000000#32)
  let e : FVec F S512x512 .bf16 := exp (addf (truncf .bf16 s bitsLt_bf16_f32) bias)
  let d : FVec F S512 .f32 := multiReduction .add [1] S512 (extf .f32 e bitsLt_bf16_f32) 0x00000000#32 reduces_S512x512_S512 (.inl rfl) rfl
  let w : FVec F S512x64 .f32 := matmul dot_S512x512_S512x64_S512x64_1_0_0_1_n_n none e vh (constant S512x64 .f32 0x00000000#32)
  let inv : FVec F S512x1 .f32 := divf (broadcast S512x1 (Scalar.ofBits .f32 0x3F800000#32)) (shapeCast S512x1 d shapeCasts_S512_S512x1)
  shapeCast S1x1x512x64 (truncf .bf16 (mulf w (broadcastTo S512x64 inv broadcasts_S512x1_S512x64)) bitsLt_bf16_f32) shapeCasts_S512x64_S1x1x512x64

/-- A received slot times its rows of the output weights. -/
def prodVal (a : Vec F S1x1x512x256 .bf16) (w : Vec F S256x768 .bf16) : FVec F S512x768 .f32 :=
  matmul dot_S512x256_S256x768_S512x768_1_0_0_1_n_n none (shapeCast S512x256 a shapeCasts_S1x1x512x256_S512x256)
    (shapeCast S256x768 w shapeCasts_S256x768_S256x768) (constant S512x768 .f32 0x00000000#32)

/-- A result's batch as it is stored. -/
def outVal (v : FVec F S512x768 .f32) : FVec F S1x512x768 .f32 := shapeCast S1x512x768 v shapeCasts_S512x768_S1x512x768

/-- The mask added to the scores. -/
def biasVal : FVec F S512x512 .bf16 :=
  k0_pay10 (k0_pay8 (iota .tc S512x512 32 [0] iota_S512x512_d0_w32) 64#32 k0_pay3 k0_pay4 k0_pay5)
    (k0_pay9 (iota .tc S512x512 32 [0] iota_S512x512_d0_w32) 64#32 k0_pay3 k0_pay4 k0_pay5)

/-- One head of the local attention: its keys and values read, its context stored. -/
def headStep (r i : Fin 4) (q : FVec F S1024x512 .bf16) (k : P F) : P F :=
  .op (.load mK (Rect.unit (s := S2x512x8x64) ![rb r, 0, rhead r i, 0] S1x512x1x64.size (kv_inb r i)).toLoadRect (View.loadsAt_vmem h_S1x512x1x64)) fun kk =>
  .op (.load mV (Rect.unit (s := S2x512x8x64) ![rb r, 0, rhead r i, 0] S1x512x1x64.size (kv_inb r i)).toLoadRect (View.loadsAt_vmem h_S1x512x1x64)) fun vv =>
  .op (.load mComm (Rect.unit (s := S4x4x512x256) ![r.val, 0, 0, 64 * i.val] S1x1x512x64.size (col_inb r i)).toLoadRect (View.loadsAt_vmem h_S1x1x512x64)) fun _ =>
  .op (.store mComm (Rect.unit (s := S4x4x512x256) ![r.val, 0, 0, 64 * i.val] S1x1x512x64.size (col_inb r i)) (headVal r i q biasVal kk vv) Finset.univ
    (View.stores_vmem h_S1x1x512x64 ((Memref.isWhole_whole cc0_scratch0).storeExact_slice rfl _ (col_packed r i)) (fun _ => rfl)) (.inl rfl)) fun _ => k

/-- The four heads of a ring. -/
def headsStep (r : Fin 4) (q : FVec F S1024x512 .bf16) (k : P F) : P F :=
  headStep r 0 q <| headStep r 1 q <| headStep r 2 q <| headStep r 3 q k

/-- Slot `h` of ring `r` goes to device `d`'s slot `h + 1`. -/
def sendStep (r : Fin 4) (h : Fin 3) (d : Dev nD) (k : P F) : P F :=
  .op (.enqueueDma (slotM r h.castSucc) (.remote (Dev.tc d) (slotM r h.succ) (.dma (sSem r h))) (.dma (rSem r h))
    (slotM_words r h.castSucc) (slotM_words r h.succ) ⟨⟨rfl, Or.inl rfl⟩, trivial⟩) fun _ => k

/-- The wait for the landing in slot `h + 1` of ring `r`. -/
def recvStep (r : Fin 4) (h : Fin 3) (k : P F) : P F :=
  .op (.waitDma2 (rSem r h) (slotM r h.castSucc) (slotM r h.succ) (slotM_words r h.castSucc) (slotM_words r h.succ)) fun _ => k

/-- The wait for the send of slot `h` of ring `r`. -/
def sentStep (r : Fin 4) (h : Fin 3) (k : P F) : P F :=
  .op (.waitDma2 (sSem r h) (slotM r h.succ) (slotM r h.castSucc) (slotM_words r h.succ) (slotM_words r h.castSucc)) fun _ => k

/-- Slot `s` of ring `r` and the rows of the output weights at `off` are read, and their product handed on. -/
def prodStep (r s : Fin 4) (off : Fin 2 → ℕ) (inb : ∀ a, off a + S256x768.size a ≤ S2048x768.size a)
    (k : FVec F S512x768 .f32 → P F) : P F :=
  .op (.load mComm (Rect.unit (s := S4x4x512x256) ![r.val, s.val, 0, 0] S1x1x512x256.size (slot_inb r s)).toLoadRect (View.loadsAt_vmem h_S1x1x512x256)) fun a =>
  .op (.load mWo (Rect.unit (s := S2048x768) off S256x768.size inb).toLoadRect (View.loadsAt_vmem h_S256x768)) fun w =>
  k (prodVal a w)

theorem out_inb : ∀ b : Fin 2, ∀ a, (![b.val, 0, 0] : Fin 3 → ℕ) a + S1x512x768.size a ≤ S2x512x768.size a := by decide

/-- Batch `b` of the result is stored. -/
def outStep (b : Fin 2) (v : FVec F S512x768 .f32) (k : P F) : P F :=
  .op (.load mOut (Rect.unit (s := S2x512x768) ![b.val, 0, 0] S1x512x768.size (out_inb b)).toLoadRect (View.loadsAt_vmem h_S1x512x768)) fun _ =>
  .op (.store mOut (Rect.unit (s := S2x512x768) ![b.val, 0, 0] S1x512x768.size (out_inb b)) (outVal v) Finset.univ (View.stores_vmem_bits_univ h_S1x512x768 rfl) (.inl rfl)) fun _ => k

/-- The handshake with both neighbours, and the queries. -/
def helloStep (d : Dev nD) (k : FVec F S1024x512 .bf16 → P F) : P F :=
  .op (.semSignal (⟨k0_dev1 d, k0_dev1_lt d⟩, .tc) (SemArray.scalar (sig.barrier 0 rfl) : Sems sig S_).sem (1#32).toInt) fun _ =>
  .op (.semSignal (⟨k0_dev2 d, k0_dev2_lt d⟩, .tc) (SemArray.scalar (sig.barrier 0 rfl) : Sems sig S_).sem (1#32).toInt) fun _ =>
  .op (.semWait (SemArray.scalar (sig.barrier 0 rfl) : Sems sig S_).sem (2#32).toInt) fun _ =>
  .op (.load mX (Rect.unit (s := S2x512x768) ![0, 0, 0] S2x512x768.size inb_S2x512x768_S2x512x768_0_0_0).toLoadRect (View.loadsAt_vmem h_S2x512x768)) fun x =>
  .op (.load mWq (Rect.unit (s := S768x2048) (k0_off1 d) S768x512.size (k0_off1_inb d)).toLoadRect (View.loadsAt_vmem h_S768x512)) fun w =>
  k (k0_pay2 x w)

/-- The waits for all twelve sends. -/
def sentAll (k : P F) : P F :=
  sentStep 0 0 <| sentStep 1 0 <| sentStep 2 0 <| sentStep 0 1 <| sentStep 3 0 <| sentStep 1 1 <|
  sentStep 2 1 <| sentStep 0 2 <| sentStep 3 1 <| sentStep 1 2 <| sentStep 2 2 <| sentStep 3 2 k

/-- The whole body on device `d`. -/
def bodyOn (d : Dev nD) : P F :=
  helloStep d fun q =>
  headsStep 0 q <| sendStep 0 0 ⟨k0_dev3 d, k0_dev3_lt d⟩ <|
  headsStep 1 q <| sendStep 1 0 ⟨k0_dev4 d, k0_dev4_lt d⟩ <|
  headsStep 2 q <| sendStep 2 0 ⟨k0_dev5 d, k0_dev5_lt d⟩ <|
  recvStep 0 0 <| sendStep 0 1 ⟨k0_dev6 d, k0_dev6_lt d⟩ <|
  headsStep 3 q <| sendStep 3 0 ⟨k0_dev7 d, k0_dev7_lt d⟩ <|
  recvStep 1 0 <| sendStep 1 1 ⟨k0_dev8 d, k0_dev8_lt d⟩ <|
  prodStep 0 0 (k0_off2 d 0#32) (k0_off2_inb d 0) fun a0 =>
  prodStep 1 0 (k0_off2 d 256#32) (k0_off2_inb d 1) fun a1 =>
  prodStep 2 0 (k0_off2 d 0#32) (k0_off2_inb d 0) fun b0 =>
  prodStep 3 0 (k0_off2 d 256#32) (k0_off2_inb d 1) fun b1 =>
  recvStep 2 0 <| sendStep 2 1 ⟨k0_dev9 d, k0_dev9_lt d⟩ <|
  prodStep 0 1 (k0_off3 d 0#32) (k0_off3_inb d 0) fun a2 =>
  recvStep 0 1 <| sendStep 0 2 ⟨k0_dev10 d, k0_dev10_lt d⟩ <|
  prodStep 1 1 (k0_off4 d 0#32) (k0_off4_inb d 0) fun a3 =>
  recvStep 3 0 <| sendStep 3 1 ⟨k0_dev11 d, k0_dev11_lt d⟩ <|
  prodStep 2 1 (k0_off3 d 0#32) (k0_off3_inb d 0) fun b2 =>
  recvStep 1 1 <| sendStep 1 2 ⟨k0_dev12 d, k0_dev12_lt d⟩ <|
  prodStep 3 1 (k0_off4 d 0#32) (k0_off4_inb d 0) fun b3 =>
  recvStep 2 1 <| sendStep 2 2 ⟨k0_dev13 d, k0_dev13_lt d⟩ <|
  prodStep 0 2 (k0_off3 d 1#32) (k0_off3_inb d 1) fun a4 =>
  recvStep 0 2 <|
  prodStep 1 2 (k0_off4 d 1#32) (k0_off4_inb d 1) fun a5 =>
  recvStep 3 1 <| sendStep 3 2 ⟨k0_dev14 d, k0_dev14_lt d⟩ <|
  prodStep 2 2 (k0_off3 d 1#32) (k0_off3_inb d 1) fun b4 =>
  recvStep 1 2 <|
  prodStep 3 2 (k0_off4 d 1#32) (k0_off4_inb d 1) fun b5 =>
  prodStep 0 3 (k0_off3 d 2#32) (k0_off3_inb d 2) fun a6 =>
  recvStep 2 2 <|
  prodStep 1 3 (k0_off4 d 2#32) (k0_off4_inb d 2) fun a7 =>
  prodStep 2 3 (k0_off3 d 2#32) (k0_off3_inb d 2) fun b6 =>
  recvStep 3 2 <|
  prodStep 3 3 (k0_off4 d 2#32) (k0_off4_inb d 2) fun b7 =>
  sentAll <|
  outStep 0 (addf (addf (addf (addf (addf (addf (addf a0 a1) a2) a3) a4) a5) a6) a7) <|
  outStep 1 (addf (addf (addf (addf (addf (addf (addf b0 b1) b2) b3) b4) b5) b6) b7) <|
  .ret ⟨⟩

set_option maxRecDepth 65536 in
/-- The printed body, on its buffers, is that program. -/
theorem body_eq : cc0_body_skel (F := F) mX (Memref.isWhole_whole _) mWq (Memref.isWhole_whole _) mK (Memref.isWhole_whole _)
    mV (Memref.isWhole_whole _) mWo (Memref.isWhole_whole _) mOut (Memref.isWhole_whole _) mComm (Memref.isWhole_whole _) cc0_scratch1 cc0_scratch2
    = .op .deviceId bodyOn := by
  rfl

end Cert.RingAttn

end
-- ==== Proof.Contents.lean ====
/- What every buffer of the run holds.

   The staged inputs of a device, the queries, the context of its heads, the communication buffer
   of a device once everything has landed in it, and the result. Slot `s` of ring `r` on device `c`
   holds the context computed by the device `s` hops back along that ring; so a send moves a slot
   onto the slot of the neighbour that holds the same values. -/
module

public import proofs.«01_k».proof.Proof.Body

@[expose] public section

set_option synthInstance.maxSize 4096

noncomputable section

namespace Cert.RingAttn

open Idealize.ShloMosaic Idealize.ShloMosaic.TcCoe Idealize.SL.Sem
open Cert.KernelIdeal Cert.KernelIdeal.Gen

variable {F : FTy → Type} [FloatOps F] [Named F]

/-! ## The rings -/

/-- The neighbours of a device. -/
def nxt (c : Dev nD) : Dev nD := ⟨(c.val + 1) % 4, Nat.mod_lt _ (by decide)⟩
def prv (c : Dev nD) : Dev nD := ⟨(c.val + 3) % 4, Nat.mod_lt _ (by decide)⟩

/-- Where ring `r` sends to from `c`: rings 0 and 2 go up, rings 1 and 3 down. -/
def tgt (r : Fin 4) (c : Dev nD) : Dev nD := if r.val % 2 = 0 then nxt c else prv c
/-- Where what `c` receives on ring `r` comes from. -/
def src (r : Fin 4) (c : Dev nD) : Dev nD := if r.val % 2 = 0 then prv c else nxt c
/-- The device whose context slot `s` of ring `r` holds on `c`. -/
def org (r s : Fin 4) (c : Dev nD) : Dev nD :=
  if r.val % 2 = 0 then ⟨(c.val + 3 * s.val) % 4, Nat.mod_lt _ (by decide)⟩ else ⟨(c.val + s.val) % 4, Nat.mod_lt _ (by decide)⟩

theorem prv_nxt : ∀ c : Dev nD, prv (nxt c) = c := by decide
theorem nxt_prv : ∀ c : Dev nD, nxt (prv c) = c := by decide
theorem src_tgt : ∀ (r : Fin 4) (c : Dev nD), src r (tgt r c) = c := by decide
theorem tgt_src : ∀ (r : Fin 4) (c : Dev nD), tgt r (src r c) = c := by decide
theorem org_zero : ∀ (r : Fin 4) (c : Dev nD), org r 0 c = c := by decide
theorem org_tgt : ∀ (r : Fin 4) (h : Fin 3) (c : Dev nD), org r h.succ (tgt r c) = org r h.castSucc c := by decide

/-- One ring as a permutation of the devices. -/
def ringEquiv (r : Fin 4) : Dev nD ≃ Dev nD := ⟨tgt r, src r, src_tgt r, tgt_src r⟩
def nxtEquiv : Dev nD ≃ Dev nD := ⟨nxt, prv, prv_nxt, nxt_prv⟩

/-! ## The staged inputs -/

variable (m : (ℓ : Loc nD τ sig) → Buf (Elt F) ℓ)

def xS (c : Dev nD) : (cc0_stg0_0 : Ref sig .tc).ty.Contents (Elt F) := (win0_0.blk (0 : Fin 1)).view.read (Elt F) (m ((c : Thread nD τ).loc main_arg0))
def wqS (c : Dev nD) : (cc0_stg1_0 : Ref sig .tc).ty.Contents (Elt F) := (win0_1.blk (0 : Fin 1)).view.read (Elt F) (m ((c : Thread nD τ).loc main_arg1))
def kS (c : Dev nD) : (cc0_stg2_0 : Ref sig .tc).ty.Contents (Elt F) := (win0_2.blk (0 : Fin 1)).view.read (Elt F) (m ((c : Thread nD τ).loc main_arg2))
def vS (c : Dev nD) : (cc0_stg3_0 : Ref sig .tc).ty.Contents (Elt F) := (win0_3.blk (0 : Fin 1)).view.read (Elt F) (m ((c : Thread nD τ).loc main_arg3))
def woS (c : Dev nD) : (cc0_stg4_0 : Ref sig .tc).ty.Contents (Elt F) := (win0_4.blk (0 : Fin 1)).view.read (Elt F) (m ((c : Thread nD τ).loc main_arg4))

/-! ## What the body computes -/

/-- The queries of the device's heads. -/
def qV (c : Dev nD) : FVec F S1024x512 .bf16 :=
  k0_pay2 (mX.view.readAt (Elt F) (Rect.unit (s := S2x512x768) ![0, 0, 0] S2x512x768.size inb_S2x512x768_S2x512x768_0_0_0).toLoadRect (xS m c))
    (mWq.view.readAt (Elt F) (Rect.unit (s := S768x2048) (k0_off1 c) S768x512.size (k0_off1_inb c)).toLoadRect (wqS m c))

/-- The keys and the values of head `i` of ring `r`. -/
def kH (c : Dev nD) (r i : Fin 4) : Vec F S1x512x1x64 .bf16 :=
  mK.view.readAt (Elt F) (Rect.unit (s := S2x512x8x64) ![rb r, 0, rhead r i, 0] S1x512x1x64.size (kv_inb r i)).toLoadRect (kS m c)
def vH (c : Dev nD) (r i : Fin 4) : Vec F S1x512x1x64 .bf16 :=
  mV.view.readAt (Elt F) (Rect.unit (s := S2x512x8x64) ![rb r, 0, rhead r i, 0] S1x512x1x64.size (kv_inb r i)).toLoadRect (vS m c)

/-- The context of head `i` of ring `r`. -/
def ctxH (c : Dev nD) (r i : Fin 4) : FVec F S1x1x512x64 .bf16 := headVal r i (qV m c) biasVal (kH m c r i) (vH m c r i)

/-- An index of one head's context. -/
def ixH (row : Fin 512) (col : Fin 64) : S1x1x512x64.Idx := fun a => match a with
  | ⟨0, _⟩ => (0 : Fin 1) | ⟨1, _⟩ => (0 : Fin 1) | ⟨2, _⟩ => row | ⟨3, _⟩ => col

/-- The context of ring `r`'s four heads, side by side. -/
def ctxAt (c : Dev nD) (r : Fin 4) (row : Fin 512) (col : Fin 256) : Elt F .bf16 :=
  ctxH m c r ⟨col.val / 64, by omega⟩ (ixH row ⟨col.val % 64, Nat.mod_lt _ (by decide)⟩)

/-- The communication buffer of device `c` when everything has landed. -/
def commF (c : Dev nD) : (cc0_scratch0 : Ref sig .tc).ty.Contents (Elt F) := fun i =>
  ctxAt m (org (i (0 : Fin 4)) (i (1 : Fin 4)) c) (i (0 : Fin 4)) (i (2 : Fin 4)) (i (3 : Fin 4))

/-- A slot as the body reads it, rows of the output weights, and their product. -/
def slotV (c : Dev nD) (r s : Fin 4) : Vec F S1x1x512x256 .bf16 :=
  mComm.view.readAt (Elt F) (Rect.unit (s := S4x4x512x256) ![r.val, s.val, 0, 0] S1x1x512x256.size (slot_inb r s)).toLoadRect (commF m c)
def woV (c : Dev nD) (off : Fin 2 → ℕ) (inb : ∀ a, off a + S256x768.size a ≤ S2048x768.size a) : Vec F S256x768 .bf16 :=
  mWo.view.readAt (Elt F) (Rect.unit (s := S2048x768) off S256x768.size inb).toLoadRect (woS m c)
def prd (c : Dev nD) (r s : Fin 4) (off : Fin 2 → ℕ) (inb : ∀ a, off a + S256x768.size a ≤ S2048x768.size a) : FVec F S512x768 .f32 :=
  prodVal (slotV m c r s) (woV m c off inb)

/-- Eight products added up, for the rings `r` and `r'`. -/
def accV (d : Dev nD) (r r' : Fin 4) : FVec F S512x768 .f32 :=
  addf (addf (addf (addf (addf (addf (addf (prd m d r 0 (k0_off2 d 0#32) (k0_off2_inb d 0)) (prd m d r' 0 (k0_off2 d 256#32) (k0_off2_inb d 1)))
    (prd m d r 1 (k0_off3 d 0#32) (k0_off3_inb d 0))) (prd m d r' 1 (k0_off4 d 0#32) (k0_off4_inb d 0)))
    (prd m d r 2 (k0_off3 d 1#32) (k0_off3_inb d 1))) (prd m d r' 2 (k0_off4 d 1#32) (k0_off4_inb d 1)))
    (prd m d r 3 (k0_off3 d 2#32) (k0_off3_inb d 2))) (prd m d r' 3 (k0_off4 d 2#32) (k0_off4_inb d 2))

/-- Batch `b` of the result. -/
def outV (c : Dev nD) (b : Fin 2) : FVec F S1x512x768 .f32 := if b.val = 0 then outVal (accV m c 0 1) else outVal (accV m c 2 3)

/-- An index of one batch of the result. -/
def ixO (row : Fin 512) (col : Fin 768) : S1x512x768.Idx := fun a => match a with
  | ⟨0, _⟩ => (0 : Fin 1) | ⟨1, _⟩ => row | ⟨2, _⟩ => col

/-- The result. -/
def outAt (c : Dev nD) : (cc0_stg5_0 : Ref sig .tc).ty.Contents (Elt F) := fun i =>
  outV m c (i (0 : Fin 3)) (ixO (i (1 : Fin 3)) (i (2 : Fin 3)))

/-! ## Storing into the buffers -/

/-- The elements of slot `s` of ring `r`. -/
abbrev slotSet (r s : Fin 4) : Finset (cc0_scratch0 : Ref sig .tc).ty.Idx := (slotM r s).view.set

theorem mem_slotSet {r s : Fin 4} {i : S4x4x512x256.Idx} :
    i ∈ slotSet r s ↔ i (0 : Fin 4) = r ∧ i (1 : Fin 4) = s := by
  have e : slotSet r s = (Rect.unit (s := S4x4x512x256) ![r.val, s.val, 0, 0] S1x1x512x256.size (slot_inb r s)).set :=
    (View.set_reshape _ _).trans (View.set_slice_whole cc0_scratch0 _)
  refine (Finset.ext_iff.mp e i).trans ?_
  refine Rect.mem_set_unit.trans ?_
  constructor
  · intro h
    have h0 := h (0 : Fin 4); have h1 := h (1 : Fin 4)
    constructor
    · apply Fin.ext; change r.val ≤ (i (0 : Fin 4)).val ∧ (i (0 : Fin 4)).val < r.val + 1 at h0; omega
    · apply Fin.ext; change s.val ≤ (i (1 : Fin 4)).val ∧ (i (1 : Fin 4)).val < s.val + 1 at h1; omega
  · rintro ⟨rfl, rfl⟩ a
    fin_cases a
    · exact ⟨le_refl _, Nat.lt_succ_self _⟩
    · exact ⟨le_refl _, Nat.lt_succ_self _⟩
    · exact ⟨Nat.zero_le _, show (i (2 : Fin 4)).val < 0 + 512 from (Nat.zero_add 512).symm ▸ (i (2 : Fin 4)).isLt⟩
    · exact ⟨Nat.zero_le _, show (i (3 : Fin 4)).val < 0 + 256 from (Nat.zero_add 256).symm ▸ (i (3 : Fin 4)).isLt⟩

theorem slotSet_disjoint {r s r' s' : Fin 4} (h : (r, s) ≠ (r', s')) : Disjoint (slotSet r s) (slotSet r' s') := by
  refine Finset.disjoint_left.mpr fun i hi hi' => h ?_
  have h1 := mem_slotSet.mp hi; have h2 := mem_slotSet.mp hi'
  rw [← h1.1, ← h1.2, h2.1, h2.2]

/-- What lands on the neighbour is what the neighbour's buffer is to hold there. -/
theorem landed (c : Dev nD) (r : Fin 4) (h : Fin 3) (fd fs : (cc0_scratch0 : Ref sig .tc).ty.Contents (Elt F))
    (hs : ∀ i ∈ slotSet r h.castSucc, fs i = commF m c i) :
    ∀ i ∈ slotSet r h.succ, (slotM r h.succ).view.write (Elt F) fd ((slotM r h.castSucc).view.read (Elt F) fs) Finset.univ i = commF m (tgt r c) i := by
  intro i hi
  obtain ⟨x, -, rfl⟩ := Finset.mem_map.mp hi
  rw [View.write_emb_of_mem _ _ (Finset.mem_univ x), View.read_apply]
  have e1 : fs ((slotM r h.castSucc).view.emb x) = commF m c ((slotM r h.castSucc).view.emb x) := hs _ (View.emb_mem_set _ x)
  refine Eq.trans (b := fs ((slotM r h.castSucc).view.emb x)) rfl (e1.trans ?_)
  have a0 := mem_slotSet.mp (View.emb_mem_set (slotM r h.castSucc).view x)
  have b0 := mem_slotSet.mp hi
  have k2 : ((slotM r h.castSucc).view.emb x : S4x4x512x256.Idx) (2 : Fin 4) = ((slotM r h.succ).view.emb x : S4x4x512x256.Idx) (2 : Fin 4) := Fin.ext rfl
  have k3 : ((slotM r h.castSucc).view.emb x : S4x4x512x256.Idx) (3 : Fin 4) = ((slotM r h.succ).view.emb x : S4x4x512x256.Idx) (3 : Fin 4) := Fin.ext rfl
  unfold commF
  rw [k2, k3, a0.1, a0.2, b0.1, b0.2, org_tgt]

/-- One head's context stored into slot 0 of its ring: the columns of the heads so far are in place. -/
theorem head_stored (c : Dev nD) (r i : Fin 4) (f : (cc0_scratch0 : Ref sig .tc).ty.Contents (Elt F))
    (hf : ∀ j ∈ slotSet r 0, (j (3 : Fin 4)).val < 64 * i.val → f j = commF m c j) :
    ∀ j ∈ slotSet r 0, (j (3 : Fin 4)).val < 64 * (i.val + 1) →
      (mComm.access (Rect.unit (s := S4x4x512x256) ![r.val, 0, 0, 64 * i.val] S1x1x512x64.size (col_inb r i))).write (Elt F) f (ctxH m c r i) Finset.univ j = commF m c j := by
  intro j hj hlt
  have hr := mem_slotSet.mp hj
  by_cases h : (j (3 : Fin 4)).val < 64 * i.val
  · rw [View.write_of_not_mem]
    · exact hf j hj h
    · intro hm
      rw [View.setOn_univ] at hm
      have hm' := Rect.mem_set_unit.mp ((Finset.ext_iff.mp (View.set_slice_whole cc0_scratch0 _) j).mp hm) (3 : Fin 4)
      change 64 * i.val ≤ (j (3 : Fin 4)).val ∧ _ at hm'
      omega
  · have hj3 : (j (3 : Fin 4)).val < 256 := (j (3 : Fin 4)).isLt
    have hj2 : (j (2 : Fin 4)).val < 512 := (j (2 : Fin 4)).isLt
    set y : S1x1x512x64.Idx := ixH (j (2 : Fin 4)) ⟨(j (3 : Fin 4)).val % 64, Nat.mod_lt _ (by decide)⟩ with hy
    have hd : (j (3 : Fin 4)).val / 64 = i.val := by omega
    have hj' : j = (mComm.access (Rect.unit (s := S4x4x512x256) ![r.val, 0, 0, 64 * i.val] S1x1x512x64.size (col_inb r i))).emb y := by
      refine funext fun a => Fin.ext ?_
      fin_cases a
      · change (j (0 : Fin 4)).val = r.val + 1 * 0; rw [hr.1]; rfl
      · change (j (1 : Fin 4)).val = 0 + 1 * 0; rw [hr.2]; rfl
      · change (j (2 : Fin 4)).val = 0 + 1 * (j (2 : Fin 4)).val; omega
      · change (j (3 : Fin 4)).val = 64 * i.val + 1 * ((j (3 : Fin 4)).val % 64); omega
    have e : (mComm.access (Rect.unit (s := S4x4x512x256) ![r.val, 0, 0, 64 * i.val] S1x1x512x64.size (col_inb r i))).write (Elt F) f (ctxH m c r i) Finset.univ j = ctxH m c r i y := by
      conv_lhs => rw [hj']
      rw [View.write_emb_of_mem _ _ (Finset.mem_univ y)]; rfl
    rw [e]
    unfold commF ctxAt
    rw [hr.1, hr.2, org_zero]
    have : (⟨(j (3 : Fin 4)).val / 64, by omega⟩ : Fin 4) = i := Fin.ext hd
    rw [this]

/-- A batch of the result stored. -/
theorem out_stored (c : Dev nD) (b : Fin 2) (f : (cc0_stg5_0 : Ref sig .tc).ty.Contents (Elt F))
    (hf : ∀ j : S2x512x768.Idx, (j (0 : Fin 3)).val < b.val → f j = outAt m c j) :
    ∀ j : S2x512x768.Idx, (j (0 : Fin 3)).val < b.val + 1 →
      (mOut.access (Rect.unit (s := S2x512x768) ![b.val, 0, 0] S1x512x768.size (out_inb b))).write (Elt F) f (outV m c b) Finset.univ j = outAt m c j := by
  intro j hlt
  by_cases h : (j (0 : Fin 3)).val < b.val
  · rw [View.write_of_not_mem]
    · exact hf j h
    · intro hm
      rw [View.setOn_univ] at hm
      have hm' := Rect.mem_set_unit.mp ((Finset.ext_iff.mp (View.set_slice_whole cc0_stg5_0 _) j).mp hm) (0 : Fin 3)
      change b.val ≤ (j (0 : Fin 3)).val ∧ _ at hm'
      omega
  · have hb : j (0 : Fin 3) = b := Fin.ext (by omega)
    set y : S1x512x768.Idx := ixO (j (1 : Fin 3)) (j (2 : Fin 3)) with hy
    have hj' : j = (mOut.access (Rect.unit (s := S2x512x768) ![b.val, 0, 0] S1x512x768.size (out_inb b))).emb y := by
      refine funext fun a => Fin.ext ?_
      fin_cases a
      · change (j (0 : Fin 3)).val = b.val + 1 * 0; rw [hb]; rfl
      · change (j (1 : Fin 3)).val = 0 + 1 * (j (1 : Fin 3)).val; omega
      · change (j (2 : Fin 3)).val = 0 + 1 * (j (2 : Fin 3)).val; omega
    have e : (mOut.access (Rect.unit (s := S2x512x768) ![b.val, 0, 0] S1x512x768.size (out_inb b))).write (Elt F) f (outV m c b) Finset.univ j = outV m c b y := by
      conv_lhs => rw [hj']
      rw [View.write_emb_of_mem _ _ (Finset.mem_univ y)]; rfl
    rw [e]; unfold outAt; rw [hb]

end Cert.RingAttn

end
-- ==== Proof.Protocol.lean ====
/- The protocol of the kernel's semaphores.

   A device has 25 semaphores of its own: the barrier, and for every ring and hop one for the send
   and one for the landing. Each is used for one round. A device's barrier is raised once by each
   neighbour, which hands over with it the slots of its communication buffer that the device is to
   write; a send's semaphore hands back the half share of the slot that was read; a landing's hands
   over the slot that was written, at the contents the slot is to hold. -/
module

public import proofs.«01_k».proof.Proof.Contents
public import Idealize.ShloMosaic.Lib.Pipeline.Launch
public import Idealize.ShloMosaic.Lib.Pipeline.Kit
public import Idealize.ShloMosaic.Lib.Tactic

@[expose] public section

set_option synthInstance.maxSize 4096

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## The cells -/

/-- A hop: a ring and the hop's number. -/
abbrev Hop : Type := Fin 4 × Fin 3
/-- A cell of a device: the barrier; or of a hop the send's (`false`) or the landing's (`true`). -/
abbrev Cel : Type := Option (Bool × Hop)

abbrev barS : Sem sig := (SemArray.scalar (sig.barrier 0 rfl) : Sems sig S_).sem

/-- The kernel's own semaphores, and all of its semaphores. -/
abbrev osem (k : Bool × Hop) : SemLoc sig := if k.1 then .dma (rSem k.2.1 k.2.2) else .dma (sSem k.2.1 k.2.2)
def csem : Cel → SemLoc sig
  | none => .reg barS
  | some k => osem k

abbrev cellAt (c : Dev nD) (k : Cel) : GSem nD τ sig := ((c : Thread nD τ), csem k)
abbrev barCell (c : Dev nD) : GSem nD τ sig := ((c : Thread nD τ), .reg barS)
abbrev sendCell (c : Dev nD) (x : Hop) : GSem nD τ sig := ((c : Thread nD τ), .dma (sSem x.1 x.2))
abbrev recvCell (c : Dev nD) (x : Hop) : GSem nD τ sig := ((c : Thread nD τ), .dma (rSem x.1 x.2))

theorem sSem_val : ∀ (r : Fin 4) (h : Fin 3), (sSem r h).val = 6 + (3 * r.val + h.val) := by decide
theorem rSem_val : ∀ (r : Fin 4) (h : Fin 3), (rSem r h).val = 18 + (3 * r.val + h.val) := by decide

theorem osem_injective : Function.Injective osem := by
  rintro ⟨b, r, h⟩ ⟨b', r', h'⟩ e
  have key : ∀ (r r' : Fin 4) (h h' : Fin 3), 3 * r.val + h.val = 3 * r'.val + h'.val → r = r' ∧ h = h' := by decide
  have v : ∀ (b b' : Bool) (r r' : Fin 4) (h h' : Fin 3), osem (b, r, h) = osem (b', r', h') →
      (if b then 18 else 6) + (3 * r.val + h.val) = (if b' then 18 else 6) + (3 * r'.val + h'.val) := by
    intro b b' r r' h h' e
    cases b <;> cases b' <;> (have e' := congrArg Fin.val (SemLoc.dma.inj e); simpa only [sSem_val, rSem_val, Bool.false_eq_true, if_true, if_false] using e')
  have e1 := v b b' r r' h h' e
  have hb : b = b' := by
    have := r.isLt; have := r'.isLt; have := h.isLt; have := h'.isLt
    cases b <;> cases b' <;> simp only [Bool.false_eq_true, if_true, if_false] at e1 <;> first | rfl | (exfalso; omega)
  subst hb
  obtain ⟨h1, h2⟩ := key r r' h h' (by omega)
  rw [h1, h2]

theorem csem_injective : Function.Injective csem := by
  intro k k' e
  rcases k with _ | k <;> rcases k' with _ | k'
  · rfl
  · rcases k' with ⟨_ | _, x⟩ <;> cases e
  · rcases k with ⟨_ | _, x⟩ <;> cases e
  · exact congrArg some (osem_injective e)

open Classical in
/-- Which of a device's cells a semaphore is. -/
def which (sm : SemLoc sig) : Option Cel := if h : ∃ k, csem k = sm then some h.choose else none

theorem which_csem (k : Cel) : which (csem k) = some k := by
  have h : ∃ k', csem k' = csem k := ⟨k, rfl⟩
  unfold which; rw [dif_pos h]; exact congrArg some (csem_injective h.choose_spec)
theorem which_bar : which (.reg barS) = some none := which_csem none
theorem which_send (x : Hop) : which (.dma (sSem x.1 x.2)) = some (some (false, x)) := which_csem (some (false, x))
theorem which_recv (x : Hop) : which (.dma (rSem x.1 x.2)) = some (some (true, x)) := which_csem (some (true, x))
theorem which_none {sm : SemLoc sig} (h : ∀ k, csem k ≠ sm) : which sm = none := by
  unfold which; exact dif_neg (fun ⟨k, hk⟩ => h k hk)

/-- What one slot's transfer credits. -/
abbrev N : ℕ := (slotM 0 0).view.dmaCredit
theorem N_pos : 0 < N := View.dmaCredit_pos _ (by decide)

/-! ## The slots as assertions -/

variable (m : (ℓ : Loc nD τ sig) → Buf (Elt F) ℓ) (ρ : Dev nD → PrngReg)

/-- Slot `s` of ring `r` of device `c`'s communication buffer, at share `q` and contents `f`. -/
def slotPts (c : Dev nD) (r s : Fin 4) (q : PosShare TreeShare) (f : (cc0_scratch0 : Ref sig .tc).ty.Contents (Elt F)) : sProp 𝕄 :=
  (slotM r s).view.loc (c : Thread nD τ) ↦[(slotM r s).view.set]{q} f

instance slotPts_storable (c : Dev nD) (r s : Fin 4) (q) (f) : BI.Storable (upEmb : UEmb _ 𝕄) (slotPts (F := F) c r s q f) := by
  unfold slotPts; infer_instance

/-- A slot at whatever it holds. -/
def anySlot (c : Dev nD) (r s : Fin 4) : sProp 𝕄 := iprop(∃ f, slotPts (F := F) c r s fullShare f)
instance anySlot_storable (c : Dev nD) (r s : Fin 4) : BI.Storable (upEmb : UEmb _ 𝕄) (anySlot (F := F) c r s) := by
  unfold anySlot; infer_instance

/-- The three slots of ring `r` that are written from outside. -/
def landing (c : Dev nD) (r : Fin 4) : sProp 𝕄 :=
  iprop(anySlot (F := F) c r (Fin.succ (0 : Fin 3)) ∗ anySlot (F := F) c r (Fin.succ (1 : Fin 3)) ∗ anySlot (F := F) c r (Fin.succ (2 : Fin 3)))
instance landing_storable (c : Dev nD) (r : Fin 4) : BI.Storable (upEmb : UEmb _ 𝕄) (landing (F := F) c r) := by
  unfold landing; infer_instance

/-! ## The schedule -/

/-- What a cell's duty hands over. -/
def payOf (c : Dev nD) : Option Cel → Bool → sProp 𝕄
  | some none, true => iprop(landing (F := F) (nxt c) 0 ∗ landing (F := F) (nxt c) 2)
  | some none, false => iprop(landing (F := F) (prv c) 1 ∗ landing (F := F) (prv c) 3)
  | some (some (false, x)), _ => slotPts c x.1 x.2.castSucc fullShare.left (commF m c)
  | some (some (true, x)), _ => slotPts c x.1 x.2.succ fullShare (commF m c)
  | none, _ => iprop(emp)

def dutiesOf : Option Cel → Finset Bool
  | some none => Finset.univ
  | some (some _) => {false}
  | none => ∅
def amountOf : Option Cel → ℕ
  | some none => 1
  | _ => N

def ringRd : Rounds.Schedule (GSem nD τ sig) Bool 𝕄 where
  duties g r := if r = 0 ∧ g.1.2 = .tc then dutiesOf (which g.2) else ∅
  unitless _ := False
  amount g _ _ := amountOf (which g.2)
  payload g _ d := payOf m g.1.1 (which g.2) d
  amount_pos g _ _ _ := by
    rcases which g.2 with _ | _ | k
    · exact N_pos
    · exact Nat.one_pos
    · exact N_pos

instance ringRd_payload_storable (g : GSem nD τ sig) (r : ℕ) (d : Bool) :
    BI.Storable (upEmb : UEmb _ 𝕄) ((ringRd (F := F) m).payload g r d) := by
  show BI.Storable upEmb (payOf m g.1.1 (which g.2) d)
  rcases which g.2 with _ | _ | ⟨b, x⟩ <;> cases d <;> (try cases b) <;> (unfold payOf; infer_instance)

section Sched
variable (c : Dev nD) (x : Hop)

theorem duties_bar : (ringRd (F := F) m).duties (barCell c) 0 = Finset.univ := by
  dsimp only [ringRd]; rw [if_pos ⟨rfl, rfl⟩, which_bar]; rfl
theorem duties_send : (ringRd (F := F) m).duties (sendCell c x) 0 = {false} := by
  dsimp only [ringRd]; rw [if_pos ⟨rfl, rfl⟩, which_send]; rfl
theorem duties_recv : (ringRd (F := F) m).duties (recvCell c x) 0 = {false} := by
  dsimp only [ringRd]; rw [if_pos ⟨rfl, rfl⟩, which_recv]; rfl
theorem duties_later (g : GSem nD τ sig) : ∀ r, 1 ≤ r → (ringRd (F := F) m).duties g r = ∅ :=
  fun r hr => by dsimp only [ringRd]; exact if_neg fun h => by omega

theorem amount_bar (d : Bool) : (ringRd (F := F) m).amount (barCell c) 0 d = 1 := by dsimp only [ringRd]; rw [which_bar]; rfl
theorem amount_send (d : Bool) : (ringRd (F := F) m).amount (sendCell c x) 0 d = N := by dsimp only [ringRd]; rw [which_send]; rfl
theorem amount_recv (d : Bool) : (ringRd (F := F) m).amount (recvCell c x) 0 d = N := by dsimp only [ringRd]; rw [which_recv]; rfl

theorem expect_bar : (ringRd (F := F) m).expect (barCell c) 0 = 2 := by
  unfold Schedule.expect Schedule.amountOf
  rw [duties_bar, Finset.sum_congr rfl fun d _ => amount_bar m c d, Finset.sum_const, Finset.card_univ, Fintype.card_bool, smul_eq_mul]
theorem expect_send : (ringRd (F := F) m).expect (sendCell c x) 0 = N := by
  unfold Schedule.expect Schedule.amountOf; rw [duties_send, Finset.sum_singleton, amount_send]
theorem expect_recv : (ringRd (F := F) m).expect (recvCell c x) 0 = N := by
  unfold Schedule.expect Schedule.amountOf; rw [duties_recv, Finset.sum_singleton, amount_recv]

theorem payload_bar_true : (ringRd (F := F) m).payload (barCell c) 0 true = iprop(landing (F := F) (nxt c) 0 ∗ landing (F := F) (nxt c) 2) := by
  dsimp only [ringRd]; rw [which_bar]; rfl
theorem payload_bar_false : (ringRd (F := F) m).payload (barCell c) 0 false = iprop(landing (F := F) (prv c) 1 ∗ landing (F := F) (prv c) 3) := by
  dsimp only [ringRd]; rw [which_bar]; rfl
theorem payload_send (d : Bool) : (ringRd (F := F) m).payload (sendCell c x) 0 d = slotPts c x.1 x.2.castSucc fullShare.left (commF m c) := by
  dsimp only [ringRd]; rw [which_send]; cases d <;> rfl
theorem payload_recv (d : Bool) : (ringRd (F := F) m).payload (recvCell c x) 0 d = slotPts c x.1 x.2.succ fullShare (commF m c) := by
  dsimp only [ringRd]; rw [which_recv]; cases d <;> rfl

theorem rest_bar : bigSep ((ringRd (F := F) m).duties (barCell c) 0 \ ∅) (fun d => (ringRd (F := F) m).payload (barCell c) 0 d)
    = iprop((landing (F := F) (prv c) 1 ∗ landing (F := F) (prv c) 3) ∗ landing (F := F) (nxt c) 0 ∗ landing (F := F) (nxt c) 2) := by
  rw [Finset.sdiff_empty, duties_bar, bigSep_univ_eq_bigSepL [false, true] (by decide) (by decide), bigSepL_cons_cons, bigSepL_singleton,
    payload_bar_false, payload_bar_true]
  rfl
theorem rest_send : bigSep ((ringRd (F := F) m).duties (sendCell c x) 0 \ ∅) (fun d => (ringRd (F := F) m).payload (sendCell c x) 0 d)
    = slotPts c x.1 x.2.castSucc fullShare.left (commF m c) := by
  rw [Finset.sdiff_empty, duties_send, bigSep_singleton, payload_send]
theorem rest_recv : bigSep ((ringRd (F := F) m).duties (recvCell c x) 0 \ ∅) (fun d => (ringRd (F := F) m).payload (recvCell c x) 0 d)
    = slotPts c x.1 x.2.succ fullShare (commF m c) := by
  rw [Finset.sdiff_empty, duties_recv, bigSep_singleton, payload_recv]

end Sched

/-! ## What a device owes; the levels -/

/-- The hops in the order of the sends, which is the order of the waits for the landings too. -/
def order : List Hop := [(0, 0), (1, 0), (2, 0), (0, 1), (3, 0), (1, 1), (2, 1), (0, 2), (3, 1), (1, 2), (2, 2), (3, 2)]

/-- What is owed for the sends still to come. -/
def owedSum (c : Dev nD) : List Hop → CellTallies nD τ sig Unit
  | [] => 0
  | x :: l => owedSum c l + tallyAt (recvCell (tgt x.1 c) x) () N

/-- At launch: every send, and a unit to both neighbours' barriers. -/
def O₁ (c : Dev nD) : CellTallies nD τ sig Unit := owedSum c order + tallyAt (barCell (nxt c)) () 1
def O₀ (c : Dev nD) : CellTallies nD τ sig Unit := O₁ c + tallyAt (barCell (prv c)) () 1

/-- The place of a hop in the order. -/
def place (x : Hop) : ℕ := order.idxOf x

def L (g : GSem nD τ sig) : Finset Unit := if g.1.2 = .tc then {()} else ∅
def levOf : Option Cel → ℕ
  | some none => 1
  | some (some (true, x)) => 2 + place x
  | _ => 0
def lv (g : GSem nD τ sig) (_ : Unit) : ℕ := levOf (which g.2)

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := by unfold lv; rw [which_bar]; rfl
theorem lv_send (c : Dev nD) (x : Hop) (u : Unit) : lv (sendCell c x) u = 0 := by unfold lv; rw [which_send]; rfl
theorem lv_recv (c : Dev nD) (x : Hop) (u : Unit) : lv (recvCell c x) u = 2 + place x := by unfold lv; rw [which_recv]; rfl

theorem owedSum_pos {c : Dev nD} {l : List Hop} {g : GSem nD τ sig} {u : Unit} (h : 0 < owedSum c l g u) :
    ∃ x ∈ l, g = recvCell (tgt x.1 c) x := by
  induction l with
  | nil => exact absurd h (Nat.lt_irrefl 0)
  | cons x l ih =>
    unfold owedSum at h
    rw [Pi.add_apply, Finsupp.add_apply, tallyAt_apply] at h
    by_cases hg : g = recvCell (tgt x.1 c) x
    · exact ⟨x, List.mem_cons_self .., hg⟩
    · rw [if_neg (fun h' => hg h'.1), Nat.add_zero] at h
      obtain ⟨y, hy, e⟩ := ih h
      exact ⟨y, List.mem_cons_of_mem _ hy, e⟩

theorem owed_pos {c a b : Dev nD} {l : List Hop} {g : GSem nD τ sig} {u : Unit}
    (h : 0 < (owedSum c l + tallyAt (barCell a) () 1 + tallyAt (barCell b) () 1) g u) :
    (∃ x ∈ l, g = recvCell (tgt x.1 c) x) ∨ g = barCell a ∨ g = barCell b := by
  rw [Pi.add_apply, Finsupp.add_apply, Pi.add_apply, Finsupp.add_apply, tallyAt_apply, tallyAt_apply] at h
  by_contra hn; rw [not_or, not_or] at hn
  rw [if_neg (fun h' => hn.2.1 h'.1), if_neg (fun h' => hn.2.2 h'.1)] at h
  exact hn.1 (owedSum_pos h)
theorem O₀_pos {c : Dev nD} {g : GSem nD τ sig} {u : Unit} (h : 0 < O₀ c g u) :
    (∃ x ∈ order, g = recvCell (tgt x.1 c) x) ∨ g = barCell (nxt c) ∨ g = barCell (prv c) := owed_pos h

/-- A wait below everything that is owed. -/
theorem mayWait_of (c : Dev nD) (sm : SemLoc sig) (O : CellTallies nD τ sig Unit) (n : ℕ)
    (hs : lv ((c : Thread nD τ), sm) () ≤ n) (hO : ∀ g u, 0 < O g u → g.1.2 = .tc ∧ n < lv g u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by cases u; unfold L; rw [if_pos (hO g () hg).1]; exact Finset.mem_singleton_self _)
    (fun p hp => by rw [Finset.mem_singleton.mp hp]; exact hs)
    (fun g u hg => (hO g u hg).2)

theorem mayWait_stage (c : Dev nD) (q : DmaSem sig) (hq : ∀ k, csem k ≠ .dma q) (O : CellTallies nD τ sig Unit) (hO : O = O₀ c ∨ O = 0) :
    (levAts L lv : sProp 𝕄) ⊢ MayWait (c : Thread nD τ) (.dma q) () O := by
  rcases hO with rfl | rfl
  · refine mayWait_of c _ _ 0 ?_ fun g u hg => ?_
    · unfold lv; rw [which_none hq]; exact le_refl _
    · rcases O₀_pos hg with ⟨x, _, rfl⟩ | rfl | rfl
      · rw [lv_recv]; exact ⟨rfl, by omega⟩
      · rw [lv_bar]; exact ⟨rfl, Nat.one_pos⟩
      · rw [lv_bar]; exact ⟨rfl, Nat.one_pos⟩
  · rw [MayWait_zero]; iintro -; iempintro

/-- The barrier's wait: only landings are owed then. -/
theorem mayWait_bar (c : Dev nD) (l : List Hop) : (levAts L lv : sProp 𝕄) ⊢ MayWait (c : Thread nD τ) (.reg barS) () (owedSum c l) :=
  mayWait_of c _ _ 1 (le_of_eq (lv_bar c ())) fun g u hg => by
    obtain ⟨x, _, rfl⟩ := owedSum_pos hg
    rw [lv_recv]; exact ⟨rfl, by omega⟩

/-- The wait for a landing: the sends still to come are all later in the order. -/
theorem mayWait_recv (c : Dev nD) (x : Hop) (l : List Hop) (h : ∀ y ∈ l, place x < place y) :
    (levAts L lv : sProp 𝕄) ⊢ MayWait (c : Thread nD τ) (.dma (rSem x.1 x.2)) () (owedSum c l) :=
  mayWait_of c _ _ (2 + place x) (le_of_eq (lv_recv c x ())) fun g u hg => by
    obtain ⟨y, hy, rfl⟩ := owedSum_pos hg
    rw [lv_recv]; exact ⟨rfl, Nat.add_lt_add_left (h y hy) 2⟩

/-! ## The invariants and the positions, all recorded at once -/

/-- Every cell's invariant, and that its round is reached. -/
def records (K : Dev nD × Cel → ℕ) : sProp 𝕄 :=
  iprop((bigSep Finset.univ fun ck : Dev nD × Cel => cellInv ER (ringRd m) (K ck) (cellAt ck.1 ck.2))
    ∗ bigSep Finset.univ fun ck : Dev nD × Cel => reached ER (cellAt ck.1 ck.2) 0)

instance records_persistent (K : Dev nD × Cel → ℕ) : BI.Persistent (records m K) := by unfold records; infer_instance

theorem inv_at (K : Dev nD × Cel → ℕ) (c : Dev nD) (k : Cel) : records m K ⊢ cellInv ER (ringRd m) (K (c, k)) (cellAt c k) := by
  unfold records; exact (sep_mono_left (bigSep_elim (Finset.mem_univ (c, k)))).trans (by iintro ⟨H, -⟩; iexact H)
theorem reached_at (K : Dev nD × Cel → ℕ) (c : Dev nD) (k : Cel) : records m K ⊢ reached ER (cellAt c k) 0 := by
  unfold records; exact (sep_mono_right (bigSep_elim (Finset.mem_univ (c, k)))).trans (by iintro ⟨-, H⟩; iexact H)

end Cert.RingAttn

end
-- ==== Proof.Steps.lean ====
/- The state of a device during its body, and one rule per building block of the body.

   Of each ring the state counts the heads stored, the sends issued, the landings awaited and the
   sends awaited; the counts say which cells are spent, which slots are held and at what share.
   Each rule says: to run a building block in a state, run what follows it in the state with one
   count raised. The body's proof is then a chain of these rules. -/
module

public import proofs.«01_k».proof.Proof.Protocol

@[expose] public section

set_option synthInstance.maxSize 4096

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## The state -/

/-- One ring's counts: heads stored, sends issued, landings awaited, sends awaited. -/
structure Cnt where
  a : ℕ
  s : ℕ
  v : ℕ
  w : ℕ

/-- A send's cell: before the send, after it, after its wait. -/
def sendPart (c : Dev nD) (x : Hop) (s w : ℕ) : sProp 𝕄 :=
  if x.2.val < w then semVal (sendCell c x) 0
  else if x.2.val < s then iprop(cred (tallyAt (sendCell c x) () N) ∗ atPos ER (sendCell c x) 0 ∅ 0)
  else iprop(dutyTok ER (sendCell c x) 0 false ∗ dutyTok ER (recvCell (tgt x.1 c) x) 0 false
    ∗ anySlot (F := F) (tgt x.1 c) x.1 x.2.succ ∗ atPos ER (sendCell c x) 0 ∅ 0)

/-- A landing's cell: before its wait and after it. -/
def recvPart (c : Dev nD) (x : Hop) (v : ℕ) : sProp 𝕄 :=
  if x.2.val < v then semVal (recvCell c x) 0
  else iprop(cred (tallyAt (recvCell c x) () N) ∗ atPos ER (recvCell c x) 0 ∅ 0)

/-- A slot whose first `a` heads' columns are in place. -/
def held (c : Dev nD) (r j : Fin 4) (a : ℕ) (q : PosShare TreeShare) : sProp 𝕄 :=
  iprop(∃ f : (cc0_scratch0 : Ref sig .tc).ty.Contents (Elt F),
    ⌜∀ i ∈ slotSet r j, (i (3 : Fin 4)).val < 64 * a → f i = commF m c i⌝ ∗ slotPts c r j q f)

/-- A slot: not landed yet, or held — while its send is in flight, at half a share. -/
def slotPart (c : Dev nD) (r : Fin 4) (n : Cnt) (j : Fin 4) : sProp 𝕄 :=
  if n.v < j.val then iprop(emp)
  else held m c r j (if j.val = 0 then n.a else 4) (if j.val < n.s ∧ n.w ≤ j.val then fullShare.right else fullShare)

def ringSt (c : Dev nD) (r : Fin 4) (n : Cnt) : sProp 𝕄 :=
  iprop((bigSep Finset.univ fun h : Fin 3 => sendPart (F := F) c (r, h) n.s n.w)
    ∗ (bigSep Finset.univ fun h : Fin 3 => recvPart (F := F) c (r, h) n.v)
    ∗ bigSep Finset.univ fun j : Fin 4 => slotPart m c r n j)

/-- The staged inputs. -/
def inputs (c : Dev nD) : sProp 𝕄 :=
  iprop((((c : Thread nD τ).loc cc0_stg0_0) ↦{fullShare} xS m c) ∗ (((c : Thread nD τ).loc cc0_stg1_0) ↦{fullShare} wqS m c)
    ∗ (((c : Thread nD τ).loc cc0_stg2_0) ↦{fullShare} kS m c) ∗ (((c : Thread nD τ).loc cc0_stg3_0) ↦{fullShare} vS m c)
    ∗ (((c : Thread nD τ).loc cc0_stg4_0) ↦{fullShare} woS m c))

/-- The result's buffer with the first `n` batches in place. -/
def outHeld (c : Dev nD) (n : ℕ) : sProp 𝕄 :=
  iprop(∃ f : (cc0_stg5_0 : Ref sig .tc).ty.Contents (Elt F), ⌜∀ j : S2x512x768.Idx, (j (0 : Fin 3)).val < n → f j = outAt m c j⌝
    ∗ (((c : Thread nD τ).loc cc0_stg5_0) ↦{fullShare} f))

/-- What is still owed. -/
def ow (c : Dev nD) (O : CellTallies nD τ sig Unit) : sProp 𝕄 := iprop(∃ W, owes (c : Thread nD τ) O W)

/-- The state: the counts `p` of the four rings, `n` batches stored, the sends `l` to come. `R` is carried along. -/
def St (R : sProp 𝕄) (c : Dev nD) (p : Fin 4 → Cnt) (n : ℕ) (l : List Hop) : sProp 𝕄 :=
  iprop((∃ K, records m K) ∗ levAts L lv ∗ (bigSep Finset.univ fun r => ringSt m c r (p r)) ∗ inputs m c ∗ outHeld m c n
    ∗ ow (F := F) c (owedSum c l) ∗ R)

/-- Running `k` on device `c`, with `Kt` afterwards. -/
abbrev Run (c : Dev nD) (k : P F) (Kt : PUnit → sProp 𝕄) : sProp 𝕄 :=
  wp frame (wpE (defs₀ (F := F)) 𝒱₀ (c : Thread nD τ) none) Set.univ k Kt

/-! ## Taking one part of the state out and putting its successor back -/

theorem focus {ι : Type} [Fintype ι] [DecidableEq ι] (f g : ι → sProp 𝕄) (i : ι) (h : ∀ j, j ≠ i → f j = g j) :
    bigSep Finset.univ f ⊢ iprop(f i ∗ (g i -∗ bigSep Finset.univ g)) := by
  rw [bigSep_univ_at f i, bigSep_univ_at g i, bigSep_congr (s := Finset.univ.erase i) fun j hj => h j (Finset.ne_of_mem_erase hj)]
  iintro ⟨A, B⟩
  isplitl [A]; · iexact A
  iintro C
  isplitl [C] <;> iassumption

theorem ring_focus (c : Dev nD) (p : Fin 4 → Cnt) (r : Fin 4) (n : Cnt) :
    (bigSep Finset.univ fun r' => ringSt m c r' (p r')) ⊢ iprop(ringSt m c r (p r) ∗ (ringSt m c r n -∗
      bigSep Finset.univ fun r' => ringSt m c r' (Function.update p r n r'))) := by
  have H := focus (fun r' => ringSt m c r' (p r')) (fun r' => ringSt m c r' (Function.update p r n r')) r
    (fun j hj => by rw [Function.update_of_ne hj])
  rwa [Function.update_self] at H

theorem held_full (c : Dev nD) (r j : Fin 4) (q : PosShare TreeShare) : held m c r j 4 q ⊣⊢ slotPts c r j q (commF m c) := by
  constructor
  · unfold held
    iintro ⟨%f, %hf, H⟩
    have e : slotPts c r j q f = slotPts c r j q (commF m c) := by
      unfold slotPts
      exact pointsTo_congr fun i hi => hf i hi (i (3 : Fin 4)).isLt
    ihave H' := (Entails.of_eq e) $$ H
    iexact H'
  · unfold held
    iintro H
    iexists commF m c
    isplitr; · ipureintro; exact fun _ _ _ => rfl
    iexact H

theorem slot_halves (c : Dev nD) (r j : Fin 4) (f : (cc0_scratch0 : Ref sig .tc).ty.Contents (Elt F)) :
    slotPts c r j fullShare f ⊣⊢ iprop(slotPts c r j fullShare.left f ∗ slotPts c r j fullShare.right f) := by
  unfold slotPts; exact pointsTo_share (PosShare.mem_left_op_right fullShare)

/-! ## One count of one ring raised -/

/-- Issuing a send spends its tokens and the neighbour's slot. -/
theorem send_focus (c : Dev nD) (r : Fin 4) (h : Fin 3) :
    (bigSep Finset.univ fun h' : Fin 3 => sendPart (F := F) c (r, h') h.val 0)
      ⊢ iprop((dutyTok ER (sendCell c (r, h)) 0 false ∗ dutyTok ER (recvCell (tgt r c) (r, h)) 0 false
          ∗ anySlot (F := F) (tgt r c) r h.succ ∗ atPos ER (sendCell c (r, h)) 0 ∅ 0)
        ∗ ((cred (tallyAt (sendCell c (r, h)) () N) ∗ atPos ER (sendCell c (r, h)) 0 ∅ 0)
          -∗ bigSep Finset.univ fun h' : Fin 3 => sendPart (F := F) c (r, h') (h.val + 1) 0)) := by
  have e1 : sendPart (F := F) c (r, h) h.val 0 = iprop(dutyTok ER (sendCell c (r, h)) 0 false ∗ dutyTok ER (recvCell (tgt r c) (r, h)) 0 false
      ∗ anySlot (F := F) (tgt r c) r h.succ ∗ atPos ER (sendCell c (r, h)) 0 ∅ 0) := by
    unfold sendPart; rw [if_neg (Nat.not_lt_zero _), if_neg (lt_irrefl _)]
  have e2 : sendPart (F := F) c (r, h) (h.val + 1) 0 = iprop(cred (tallyAt (sendCell c (r, h)) () N) ∗ atPos ER (sendCell c (r, h)) 0 ∅ 0) := by
    unfold sendPart; rw [if_neg (Nat.not_lt_zero _), if_pos (Nat.lt_succ_self _)]
  rw [← e1, ← e2]
  refine focus (fun h' : Fin 3 => sendPart (F := F) c (r, h') h.val 0) (fun h' : Fin 3 => sendPart (F := F) c (r, h') (h.val + 1) 0) h fun j hj => ?_
  have : j.val ≠ h.val := fun e => hj (Fin.ext e)
  unfold sendPart
  rw [if_neg (Nat.not_lt_zero _), if_neg (Nat.not_lt_zero _)]
  by_cases hlt : j.val < h.val
  · rw [if_pos hlt, if_pos (show j.val < h.val + 1 by omega)]
  · rw [if_neg hlt, if_neg (show ¬ j.val < h.val + 1 by omega)]

/-- Waiting for a send closes its cell. -/
theorem sent_focus (c : Dev nD) (r : Fin 4) (h : Fin 3) :
    (bigSep Finset.univ fun h' : Fin 3 => sendPart (F := F) c (r, h') 3 h.val)
      ⊢ iprop((cred (tallyAt (sendCell c (r, h)) () N) ∗ atPos ER (sendCell c (r, h)) 0 ∅ 0)
        ∗ (semVal (sendCell c (r, h)) 0 -∗ bigSep Finset.univ fun h' : Fin 3 => sendPart (F := F) c (r, h') 3 (h.val + 1))) := by
  have e1 : sendPart (F := F) c (r, h) 3 h.val = iprop(cred (tallyAt (sendCell c (r, h)) () N) ∗ atPos ER (sendCell c (r, h)) 0 ∅ 0) := by
    unfold sendPart; rw [if_neg (lt_irrefl _), if_pos h.isLt]
  have e2 : sendPart (F := F) c (r, h) 3 (h.val + 1) = semVal (sendCell c (r, h)) 0 := by
    unfold sendPart; rw [if_pos (Nat.lt_succ_self _)]
  rw [← e1, ← e2]
  refine focus (fun h' : Fin 3 => sendPart (F := F) c (r, h') 3 h.val) (fun h' : Fin 3 => sendPart (F := F) c (r, h') 3 (h.val + 1)) h fun j hj => ?_
  have : j.val ≠ h.val := fun e => hj (Fin.ext e)
  unfold sendPart
  by_cases hlt : j.val < h.val
  · rw [if_pos hlt, if_pos (show j.val < h.val + 1 by omega)]
  · rw [if_neg hlt, if_neg (show ¬ j.val < h.val + 1 by omega)]

/-- Waiting for a landing closes its cell. -/
theorem recv_focus (c : Dev nD) (r : Fin 4) (h : Fin 3) :
    (bigSep Finset.univ fun h' : Fin 3 => recvPart (F := F) c (r, h') h.val)
      ⊢ iprop((cred (tallyAt (recvCell c (r, h)) () N) ∗ atPos ER (recvCell c (r, h)) 0 ∅ 0)
        ∗ (semVal (recvCell c (r, h)) 0 -∗ bigSep Finset.univ fun h' : Fin 3 => recvPart (F := F) c (r, h') (h.val + 1))) := by
  have e1 : recvPart (F := F) c (r, h) h.val = iprop(cred (tallyAt (recvCell c (r, h)) () N) ∗ atPos ER (recvCell c (r, h)) 0 ∅ 0) := by
    unfold recvPart; rw [if_neg (lt_irrefl _)]
  have e2 : recvPart (F := F) c (r, h) (h.val + 1) = semVal (recvCell c (r, h)) 0 := by
    unfold recvPart; rw [if_pos (Nat.lt_succ_self _)]
  rw [← e1, ← e2]
  refine focus (fun h' : Fin 3 => recvPart (F := F) c (r, h') h.val) (fun h' : Fin 3 => recvPart (F := F) c (r, h') (h.val + 1)) h fun j hj => ?_
  have : j.val ≠ h.val := fun e => hj (Fin.ext e)
  unfold recvPart
  by_cases hlt : j.val < h.val
  · rw [if_pos hlt, if_pos (show j.val < h.val + 1 by omega)]
  · rw [if_neg hlt, if_neg (show ¬ j.val < h.val + 1 by omega)]

theorem slotPart_four (c : Dev nD) (r : Fin 4) (s v w : ℕ) (j : Fin 4) (hv : j.val ≤ v) :
    slotPart m c r ⟨4, s, v, w⟩ j = held m c r j 4 (if j.val < s ∧ w ≤ j.val then fullShare.right else fullShare) := by
  unfold slotPart; rw [if_neg (Nat.not_lt.mpr hv), ite_self]

theorem slotPart_congr (c : Dev nD) (r : Fin 4) (n n' : Cnt) (j : Fin 4) (ha : n.a = n'.a) (hv : n.v = n'.v)
    (h : j.val ≤ n.v → ((j.val < n.s ∧ n.w ≤ j.val) ↔ (j.val < n'.s ∧ n'.w ≤ j.val))) : slotPart m c r n j = slotPart m c r n' j := by
  unfold slotPart
  rw [← hv, ← ha]
  by_cases hj : n.v < j.val
  · rw [if_pos hj, if_pos hj]
  · rw [if_neg hj, if_neg hj, if_congr (h (Nat.not_lt.mp hj)) rfl rfl]

/-- The slot that is sent: whole before, at half a share after. -/
theorem slot_send_focus (c : Dev nD) (r : Fin 4) (h : Fin 3) (v : ℕ) (hv : h.val ≤ v) :
    (bigSep Finset.univ fun j => slotPart m c r ⟨4, h.val, v, 0⟩ j)
      ⊢ iprop(slotPts c r h.castSucc fullShare (commF m c)
        ∗ (slotPts c r h.castSucc fullShare.right (commF m c) -∗ bigSep Finset.univ fun j => slotPart m c r ⟨4, h.val + 1, v, 0⟩ j)) := by
  have e3 : slotPart m c r ⟨4, h.val, v, 0⟩ h.castSucc = held m c r h.castSucc 4 fullShare :=
    (slotPart_four m c r _ v 0 _ hv).trans (by rw [if_neg fun e => lt_irrefl _ e.1])
  have e4 : slotPart m c r ⟨4, h.val + 1, v, 0⟩ h.castSucc = held m c r h.castSucc 4 fullShare.right :=
    (slotPart_four m c r _ v 0 _ hv).trans (by rw [if_pos ⟨Nat.lt_succ_self _, Nat.zero_le _⟩])
  have H := focus (fun j => slotPart m c r ⟨4, h.val, v, 0⟩ j) (fun j => slotPart m c r ⟨4, h.val + 1, v, 0⟩ j) h.castSucc fun j hj => by
    have : j.val ≠ h.val := fun e => hj (Fin.ext e)
    refine slotPart_congr m c r _ _ j rfl rfl (fun _ => ?_)
    constructor <;> rintro ⟨h1, h2⟩ <;> refine ⟨?_, h2⟩ <;> dsimp only at h1 ⊢ <;> omega
  refine H.trans ?_
  beta_reduce
  rw [e3, e4]
  exact BI.sep_mono (held_full m c r h.castSucc fullShare).1 (wand_mono_left (held_full m c r h.castSucc fullShare.right).2)

/-- A rule in the form `the rest is run in the state S'`. -/
theorem run_then {S A B C : sProp 𝕄} (H : A ⊢ B) (h : S ⊢ iprop((A -∗ B) -∗ C)) : S ⊢ C := h.trans (by
  iintro Hw; iapply Hw; iintro Hs; iapply H; iexact Hs)

theorem send_spec (R : sProp 𝕄) (c : Dev nD) (r : Fin 4) (h : Fin 3) (d : Dev nD) (l : List Hop) (p : Fin 4 → Cnt) (n v : ℕ)
    (hd : d = tgt r c) (hp : p r = ⟨4, h.val, v, 0⟩) (hv : h.val ≤ v) (k : P F) (Kt : PUnit → sProp 𝕄)
    (H : St m R c (Function.update p r ⟨4, h.val + 1, v, 0⟩) n l ⊢ Run c k Kt) :
    St m R c p n ((r, h) :: l) ⊢ Run c (sendStep r h d k) Kt := by
  subst hd
  have hf := ring_focus m c p r ⟨4, h.val + 1, v, 0⟩
  rw [hp] at hf
  refine run_then H ?_
  unfold St
  iintro ⟨⟨%K, #HR⟩, #Hlev, Hrings, Hin, Hout, HO, HF⟩ Hk
  ihave Hq := hf $$ Hrings
  icases Hq with ⟨Hr, Hback⟩
  unfold ringSt
  icases Hr with ⟨HS, HV, HT⟩
  ihave HS' := (send_focus c r h) $$ HS
  icases HS' with ⟨⟨Ht1, Ht2, Hdst, Hat⟩, HSback⟩
  ihave HT' := (slot_send_focus m c r h v hv) $$ HT
  icases HT' with ⟨HTh, HTback⟩
  ihave HTh := (slot_halves c r h.castSucc (commF m c)).1 $$ HTh
  icases HTh with ⟨HL, HRt⟩
  unfold anySlot
  icases Hdst with ⟨%fd, Hdst⟩
  unfold ow
  icases HO with ⟨%W, HO⟩
  unfold sendStep
  ihave #HI1 := (inv_at m K c (some (false, (r, h)))) $$ HR
  ihave #HI2 := (inv_at m K (tgt r c) (some (true, (r, h)))) $$ HR
  ihave #Hr1 := (reached_at m K c (some (false, (r, h)))) $$ HR
  ihave #Hr2 := (reached_at m K (tgt r c) (some (true, (r, h)))) $$ HR
  unfold slotPts
  iapply (Rounds.wp_send_pointsTo 𝒱₀ ER (ringRd m) (c : Thread nD τ) none (κ₁ := K (c, some (false, (r, h)))) (κ₂ := K (tgt r c, some (true, (r, h))))
    (r₁ := 0) (r₂ := 0) (d₁ := false) (d₂ := false) (fd := fd) (fs := commF m c) (q := fullShare.left)
    (src := slotM r h.castSucc) (dst := slotM r h.succ) (sS := .dma (sSem r h)) (sem := .dma (rSem r h)) (c' := ((tgt r c : Dev nD) : Thread nD τ))
    (by rw [duties_send m c (r, h)]; exact Finset.mem_singleton_self _)
    (by rw [duties_recv m (tgt r c) (r, h)]; exact Finset.mem_singleton_self _)
    () () N rfl (amount_send m c (r, h) false) (amount_recv m (tgt r c) (r, h) false) (owedSum c l) rfl (W := W)
    (by rw [payload_send m c (r, h)]; exact BI.Entails.refl _)
    (by rw [payload_recv m (tgt r c) (r, h)]; unfold slotPts
        exact Entails.of_eq (pointsTo_congr fun i hi => landed m c r h fd (commF m c) (fun _ _ => rfl) i hi))) $$ [HL Hdst HO Ht1 Ht2]
  · isplitr; · iexact HI1
    isplitr; · iexact HI2
    isplitl [HL]; · iexact HL
    isplitl [Hdst]; · iexact Hdst
    isplitl [HO]; · iexact HO
    isplitl [Ht1]; · iexact Ht1
    isplitr; · iexact Hr1
    isplitl [Ht2]; · iexact Ht2
    iexact Hr2
  iintro ⟨Hc, HO⟩
  iapply Hk
  isplitr; · iexists K; iexact HR
  isplitr; · iexact Hlev
  isplitl [Hback HSback HTback HV Hc Hat HRt]
  · iapply Hback
    isplitl [HSback Hc Hat]
    · iapply HSback; isplitl [Hc] <;> iassumption
    isplitl [HV]; · iexact HV
    iapply HTback
    iexact HRt
  isplitl [Hin]; · iexact Hin
  isplitl [Hout]; · iexact Hout
  isplitl [HO]; · iexists W; iexact HO
  iexact HF

/-! ## Waits -/

/-- The slot that lands: it joins the ones held. -/
theorem slot_recv_focus (c : Dev nD) (r : Fin 4) (h : Fin 3) (s : ℕ) (hs : s ≤ h.val + 1) :
    (bigSep Finset.univ fun j => slotPart m c r ⟨4, s, h.val, 0⟩ j)
      ⊢ iprop(emp ∗ (slotPts c r h.succ fullShare (commF m c) -∗ bigSep Finset.univ fun j => slotPart m c r ⟨4, s, h.val + 1, 0⟩ j)) := by
  have e3 : slotPart m c r ⟨4, s, h.val, 0⟩ h.succ = iprop(emp) := by
    unfold slotPart; exact if_pos (Nat.lt_succ_self _)
  have e4 : slotPart m c r ⟨4, s, h.val + 1, 0⟩ h.succ = held m c r h.succ 4 fullShare :=
    (slotPart_four m c r s (h.val + 1) 0 h.succ (le_refl _)).trans (by rw [Fin.val_succ, if_neg (show ¬ (h.val + 1 < s ∧ 0 ≤ h.val + 1) from fun e => absurd e.1 (Nat.not_lt.mpr hs))])
  have H := focus (fun j => slotPart m c r ⟨4, s, h.val, 0⟩ j) (fun j => slotPart m c r ⟨4, s, h.val + 1, 0⟩ j) h.succ fun j hj => by
    have hj' : j.val ≠ h.val + 1 := fun e => hj (Fin.ext e)
    by_cases hlt : h.val < j.val
    · unfold slotPart; dsimp only
      rw [if_pos hlt, if_pos (show h.val + 1 < j.val by omega)]
    · rw [slotPart_four m c r _ _ 0 _ (by omega), slotPart_four m c r _ _ 0 _ (by omega)]
  refine H.trans ?_
  beta_reduce
  rw [e3, e4]
  exact BI.sep_mono (BI.Entails.refl _) (wand_mono_left (held_full m c r h.succ fullShare).2)

/-- The slot whose send is awaited: its two half shares make a whole one. -/
theorem slot_sent_focus (c : Dev nD) (r : Fin 4) (h : Fin 3) :
    (bigSep Finset.univ fun j => slotPart m c r ⟨4, 3, 3, h.val⟩ j)
      ⊢ iprop(slotPts c r h.castSucc fullShare.right (commF m c)
        ∗ (slotPts c r h.castSucc fullShare (commF m c) -∗ bigSep Finset.univ fun j => slotPart m c r ⟨4, 3, 3, h.val + 1⟩ j)) := by
  have hv : (h.castSucc : Fin 4).val ≤ 3 := by have := h.isLt; rw [Fin.val_castSucc]; omega
  have e3 : slotPart m c r ⟨4, 3, 3, h.val⟩ h.castSucc = held m c r h.castSucc 4 fullShare.right :=
    (slotPart_four m c r _ 3 _ _ hv).trans (by rw [if_pos ⟨h.isLt, le_refl _⟩])
  have e4 : slotPart m c r ⟨4, 3, 3, h.val + 1⟩ h.castSucc = held m c r h.castSucc 4 fullShare :=
    (slotPart_four m c r _ 3 _ _ hv).trans (by rw [if_neg fun e => absurd e.2 (Nat.not_le.mpr (Nat.lt_succ_self _))])
  have H := focus (fun j => slotPart m c r ⟨4, 3, 3, h.val⟩ j) (fun j => slotPart m c r ⟨4, 3, 3, h.val + 1⟩ j) h.castSucc fun j hj => by
    have : j.val ≠ h.val := fun e => hj (Fin.ext e)
    refine slotPart_congr m c r _ _ j rfl rfl (fun _ => ?_)
    constructor <;> rintro ⟨h1, h2⟩ <;> refine ⟨h1, ?_⟩ <;> dsimp only at h2 ⊢ <;> omega
  refine H.trans ?_
  beta_reduce
  rw [e3, e4]
  exact BI.sep_mono (held_full m c r h.castSucc fullShare.right).1 (wand_mono_left (held_full m c r h.castSucc fullShare).2)

theorem recv_spec (R : sProp 𝕄) (c : Dev nD) (r : Fin 4) (h : Fin 3) (l : List Hop) (p : Fin 4 → Cnt) (n s : ℕ)
    (hp : p r = ⟨4, s, h.val, 0⟩) (hs : s ≤ h.val + 1) (hl : ∀ y ∈ l, place (r, h) < place y) (k : P F) (Kt : PUnit → sProp 𝕄)
    (H : St m R c (Function.update p r ⟨4, s, h.val + 1, 0⟩) n l ⊢ Run c k Kt) :
    St m R c p n l ⊢ Run c (recvStep r h k) Kt := by
  have hf := ring_focus m c p r ⟨4, s, h.val + 1, 0⟩
  rw [hp] at hf
  refine run_then H ?_
  unfold St
  iintro ⟨⟨%K, #HR⟩, #Hlev, Hrings, Hin, Hout, HO, HF⟩ Hk
  ihave Hq := hf $$ Hrings
  icases Hq with ⟨Hr, Hback⟩
  unfold ringSt
  icases Hr with ⟨HS, HV, HT⟩
  ihave HV' := (recv_focus c r h) $$ HV
  icases HV' with ⟨⟨Hc, Hat⟩, HVback⟩
  ihave HT' := (slot_recv_focus m c r h s hs) $$ HT
  icases HT' with ⟨-, HTback⟩
  unfold ow
  icases HO with ⟨%W, HO⟩
  unfold recvStep
  ihave #HI := (inv_at m K c (some (true, (r, h)))) $$ HR
  iapply (Rounds.wp_wait_rest_token 𝒱₀ ER (ringRd m) (c : Thread nD τ) none (κ := K (c, some (true, (r, h))))
      (wpE_waitDma2_eq 𝒱₀ (c : Thread nD τ) none Set.univ) (Set.mem_univ _) () (O := owedSum c l) (W := W) (R := 0) (m := 0) (T := ∅)
      (sm := .dma (rSem r h)) (by rw [Nat.zero_add]; exact (expect_recv m c (r, h)).symm)) $$ [Hc HO Hat]
  · isplitr; · iexact HI
    isplitl [Hc]; · iexact Hc
    isplitl [HO]; · iexact HO
    isplitr; · iapply (mayWait_recv c (r, h) l hl); iexact Hlev
    iexact Hat
  iintro ⟨HO, Hat, -, Hpay⟩
  ihave Hpay := (Entails.of_eq (rest_recv m c (r, h))) $$ Hpay
  imod (Rounds.cell_close ER (ringRd m) (Set.mem_univ (K (c, some (true, (r, h))))) (fun h => h) (R := 0 + 1) (duties_later m (recvCell c (r, h)))) $$ [Hat] with Hz
  · isplitr; · iexact HI
    iexact Hat
  iapply Hk
  isplitr; · iexists K; iexact HR
  isplitr; · iexact Hlev
  isplitl [Hback HS HVback HTback Hz Hpay]
  · iapply Hback
    isplitl [HS]; · iexact HS
    isplitl [HVback Hz]; · iapply HVback; iexact Hz
    iapply HTback; iexact Hpay
  isplitl [Hin]; · iexact Hin
  isplitl [Hout]; · iexact Hout
  isplitl [HO]; · iexists _; iexact HO
  iexact HF

theorem sent_spec (R : sProp 𝕄) (c : Dev nD) (r : Fin 4) (h : Fin 3) (p : Fin 4 → Cnt) (n : ℕ)
    (hp : p r = ⟨4, 3, 3, h.val⟩) (k : P F) (Kt : PUnit → sProp 𝕄)
    (H : St m R c (Function.update p r ⟨4, 3, 3, h.val + 1⟩) n [] ⊢ Run c k Kt) :
    St m R c p n [] ⊢ Run c (sentStep r h k) Kt := by
  have hf := ring_focus m c p r ⟨4, 3, 3, h.val + 1⟩
  rw [hp] at hf
  refine run_then H ?_
  unfold St
  iintro ⟨⟨%K, #HR⟩, #Hlev, Hrings, Hin, Hout, HO, HF⟩ Hk
  ihave Hq := hf $$ Hrings
  icases Hq with ⟨Hr, Hback⟩
  unfold ringSt
  icases Hr with ⟨HS, HV, HT⟩
  ihave HS' := (sent_focus c r h) $$ HS
  icases HS' with ⟨⟨Hc, Hat⟩, HSback⟩
  ihave HT' := (slot_sent_focus m c r h) $$ HT
  icases HT' with ⟨HTh, HTback⟩
  unfold ow
  icases HO with ⟨%W, HO⟩
  unfold sentStep
  ihave #HI := (inv_at m K c (some (false, (r, h)))) $$ HR
  iapply (Rounds.wp_wait_rest_token 𝒱₀ ER (ringRd m) (c : Thread nD τ) none (κ := K (c, some (false, (r, h))))
      (wpE_waitDma2_eq 𝒱₀ (c : Thread nD τ) none Set.univ) (Set.mem_univ _) () (O := owedSum c []) (W := W) (R := 0) (m := 0) (T := ∅)
      (sm := .dma (sSem r h)) (by rw [Nat.zero_add]; exact (expect_send m c (r, h)).symm)) $$ [Hc HO Hat]
  · isplitr; · iexact HI
    isplitl [Hc]; · iexact Hc
    isplitl [HO]; · iexact HO
    isplitr; · unfold owedSum; rw [MayWait_zero]; iempintro
    iexact Hat
  iintro ⟨HO, Hat, -, Hpay⟩
  ihave Hpay := (Entails.of_eq (rest_send m c (r, h))) $$ Hpay
  imod (Rounds.cell_close ER (ringRd m) (Set.mem_univ (K (c, some (false, (r, h))))) (fun h => h) (R := 0 + 1) (duties_later m (sendCell c (r, h)))) $$ [Hat] with Hz
  · isplitr; · iexact HI
    iexact Hat
  iapply Hk
  isplitr; · iexists K; iexact HR
  isplitr; · iexact Hlev
  isplitl [Hback HSback HV HTback Hz Hpay HTh]
  · iapply Hback
    isplitl [HSback Hz]; · iapply HSback; iexact Hz
    isplitl [HV]; · iexact HV
    iapply HTback
    iapply (slot_halves c r h.castSucc (commF m c)).2
    isplitl [Hpay] <;> iassumption
  isplitl [Hin]; · iexact Hin
  isplitl [Hout]; · iexact Hout
  isplitl [HO]; · iexists _; iexact HO
  iexact HF

/-! ## Loads and stores -/

theorem slotSet_eq (r s : Fin 4) : slotSet r s = (Rect.unit (s := S4x4x512x256) ![r.val, s.val, 0, 0] S1x1x512x256.size (slot_inb r s)).set :=
  (View.set_reshape _ _).trans (View.set_slice_whole cc0_scratch0 _)

theorem setOn_whole (S : Finset S4x4x512x256.Idx) : mComm.view.setOn S = S := Finset.map_refl

/-- The columns of a head lie in slot 0 of its ring. -/
theorem col_subset (r i : Fin 4) :
    (Rect.unit (s := S4x4x512x256) ![r.val, 0, 0, 64 * i.val] S1x1x512x64.size (col_inb r i)).set ⊆ slotSet r 0 := by
  intro j hj
  have hj' := Rect.mem_set_unit.mp hj
  have h0 := hj' (0 : Fin 4); have h1 := hj' (1 : Fin 4)
  refine mem_slotSet.mpr ⟨Fin.ext ?_, Fin.ext ?_⟩
  · change r.val ≤ (j (0 : Fin 4)).val ∧ (j (0 : Fin 4)).val < r.val + 1 at h0; omega
  · change 0 ≤ (j (1 : Fin 4)).val ∧ (j (1 : Fin 4)).val < 0 + 1 at h1
    show (j (1 : Fin 4)).val = 0; omega

/-- The slot that is read is there at some share, and stays. -/
theorem slot_read_focus (c : Dev nD) (r j : Fin 4) (s v : ℕ) (hv : j.val ≤ v) :
    (bigSep Finset.univ fun j => slotPart m c r ⟨4, s, v, 0⟩ j)
      ⊢ iprop(∃ q, slotPts c r j q (commF m c)
        ∗ (slotPts c r j q (commF m c) -∗ bigSep Finset.univ fun j => slotPart m c r ⟨4, s, v, 0⟩ j)) := by
  have H := focus (fun j => slotPart m c r ⟨4, s, v, 0⟩ j) (fun j => slotPart m c r ⟨4, s, v, 0⟩ j) j fun _ _ => rfl
  beta_reduce at H
  rw [slotPart_four m c r s v 0 j hv] at H
  refine (H.trans (BI.sep_mono (held_full m c r j _).1 (wand_mono_left (held_full m c r j _).2))).trans ?_
  iintro H; iexists _; iexact H

theorem prod_spec (R : sProp 𝕄) (c : Dev nD) (r j : Fin 4) (l : List Hop) (p : Fin 4 → Cnt) (n s v : ℕ)
    (hp : p r = ⟨4, s, v, 0⟩) (hv : j.val ≤ v) (off : Fin 2 → ℕ) (inb : ∀ a, off a + S256x768.size a ≤ S2048x768.size a)
    (k : FVec F S512x768 .f32 → P F) (Kt : PUnit → sProp 𝕄)
    (H : St m R c p n l ⊢ Run c (k (prd m c r j off inb)) Kt) :
    St m R c p n l ⊢ Run c (prodStep r j off inb k) Kt := by
  have hf := ring_focus m c p r (p r)
  rw [Function.update_eq_self, hp] at hf
  refine run_then H ?_
  unfold St
  iintro ⟨⟨%K, #HR⟩, #Hlev, Hrings, Hin, Hout, HO, HF⟩ Hk
  ihave Hq := hf $$ Hrings
  icases Hq with ⟨Hr, Hback⟩
  unfold ringSt
  icases Hr with ⟨HS, HV, HT⟩
  ihave HT' := (slot_read_focus m c r j s v hv) $$ HT
  icases HT' with ⟨%q, HTh, HTback⟩
  unfold inputs slotPts
  icases Hin with ⟨Hx, Hwq, Hkk, Hvv, Hwo⟩
  unfold prodStep
  iapply (wp_load 𝒱₀ (c : Thread nD τ) none Set.univ (m := mComm) (f := commF m c) (S := slotSet r j) (q := q)
    (by rw [setOn_whole]; exact (slotSet_eq r j).ge)) $$ HTh; iintro HTh
  iapply (wp_load 𝒱₀ (c : Thread nD τ) none Set.univ (m := mWo) (Finset.subset_univ _)) $$ Hwo; iintro Hwo
  iapply Hk
  isplitr; · iexists K; iexact HR
  isplitr; · iexact Hlev
  isplitl [Hback HS HV HTback HTh]
  · iapply Hback
    isplitl [HS]; · iexact HS
    isplitl [HV]; · iexact HV
    iapply HTback; iexact HTh
  isplitl [Hx Hwq Hkk Hvv Hwo]
  · isplitl [Hx]; · iexact Hx
    isplitl [Hwq]; · iexact Hwq
    isplitl [Hkk]; · iexact Hkk
    isplitl [Hvv] <;> iassumption
  isplitl [Hout]; · iexact Hout
  isplitl [HO]; · iexact HO
  iexact HF

/-- Slot 0 while its heads are being stored. -/
theorem slot_head_focus (c : Dev nD) (r : Fin 4) (i : ℕ) :
    (bigSep Finset.univ fun j => slotPart m c r ⟨i, 0, 0, 0⟩ j)
      ⊢ iprop(held m c r 0 i fullShare ∗ (held m c r 0 (i + 1) fullShare -∗ bigSep Finset.univ fun j => slotPart m c r ⟨i + 1, 0, 0, 0⟩ j)) := by
  refine focus (fun j => slotPart m c r ⟨i, 0, 0, 0⟩ j) (fun j => slotPart m c r ⟨i + 1, 0, 0, 0⟩ j) 0 fun j hj => ?_
  have : 0 < j.val := Nat.pos_of_ne_zero fun e => hj (Fin.ext e)
  unfold slotPart
  dsimp only
  rw [if_pos this, if_pos this]

theorem head_spec (R : sProp 𝕄) (c : Dev nD) (r i : Fin 4) (l : List Hop) (p : Fin 4 → Cnt) (n : ℕ)
    (hp : p r = ⟨i.val, 0, 0, 0⟩) (k : P F) (Kt : PUnit → sProp 𝕄)
    (H : St m R c (Function.update p r ⟨i.val + 1, 0, 0, 0⟩) n l ⊢ Run c k Kt) :
    St m R c p n l ⊢ Run c (headStep r i (qV m c) k) Kt := by
  have hf := ring_focus m c p r ⟨i.val + 1, 0, 0, 0⟩
  rw [hp] at hf
  refine run_then H ?_
  unfold St
  iintro ⟨⟨%K, #HR⟩, #Hlev, Hrings, Hin, Hout, HO, HF⟩ Hk
  ihave Hq := hf $$ Hrings
  icases Hq with ⟨Hr, Hback⟩
  unfold ringSt
  icases Hr with ⟨HS, HV, HT⟩
  ihave HT' := (slot_head_focus m c r i.val) $$ HT
  icases HT' with ⟨HTh, HTback⟩
  unfold inputs held slotPts
  icases HTh with ⟨%f, %hfc, HTh⟩
  icases Hin with ⟨Hx, Hwq, Hkk, Hvv, Hwo⟩
  unfold headStep
  iapply (wp_load 𝒱₀ (c : Thread nD τ) none Set.univ (m := mK) (Finset.subset_univ _)) $$ Hkk; iintro Hkk
  iapply (wp_load 𝒱₀ (c : Thread nD τ) none Set.univ (m := mV) (Finset.subset_univ _)) $$ Hvv; iintro Hvv
  iapply (wp_load 𝒱₀ (c : Thread nD τ) none Set.univ (m := mComm) (f := f) (S := slotSet r 0) (q := fullShare)
    (by rw [setOn_whole]; exact col_subset r i)) $$ HTh; iintro HTh
  iapply (wp_store 𝒱₀ (c : Thread nD τ) none Set.univ (m := mComm)
    (r := Rect.unit (s := S4x4x512x256) ![r.val, 0, 0, 64 * i.val] S1x1x512x64.size (col_inb r i)) (Mk := Finset.univ) (f := f) (S := slotSet r 0)
    (by rw [View.setOn_univ]; exact (View.set_slice_whole cc0_scratch0 _).le.trans (col_subset r i))) $$ HTh; iintro HTh
  iapply Hk
  isplitr; · iexists K; iexact HR
  isplitr; · iexact Hlev
  isplitl [Hback HS HV HTback HTh]
  · iapply Hback
    isplitl [HS]; · iexact HS
    isplitl [HV]; · iexact HV
    iapply HTback
    iexists _
    isplitr
    rotate_left
    · iexact HTh
    · ipureintro; exact head_stored m c r i f hfc
  isplitl [Hx Hwq Hkk Hvv Hwo]
  · isplitl [Hx]; · iexact Hx
    isplitl [Hwq]; · iexact Hwq
    isplitl [Hkk]; · iexact Hkk
    isplitl [Hvv] <;> iassumption
  isplitl [Hout]; · iexact Hout
  isplitl [HO]; · iexact HO
  iexact HF

theorem out_spec (R : sProp 𝕄) (c : Dev nD) (b : Fin 2) (l : List Hop) (p : Fin 4 → Cnt)
    (v : FVec F S512x768 .f32) (hv : outVal v = outV m c b) (k : P F) (Kt : PUnit → sProp 𝕄)
    (H : St m R c p (b.val + 1) l ⊢ Run c k Kt) :
    St m R c p b.val l ⊢ Run c (outStep b v k) Kt := by
  refine run_then H ?_
  unfold St outHeld
  iintro ⟨#HR, #Hlev, Hrings, Hin, ⟨%f, %hf, Hout⟩, HO, HF⟩ Hk
  unfold outStep
  iapply (wp_load 𝒱₀ (c : Thread nD τ) none Set.univ (m := mOut) (Finset.subset_univ _)) $$ Hout; iintro Hout
  iapply (wp_store 𝒱₀ (c : Thread nD τ) none Set.univ (m := mOut)
    (r := Rect.unit (s := S2x512x768) ![b.val, 0, 0] S1x512x768.size (out_inb b)) (Mk := Finset.univ) (f := f) (Finset.subset_univ _)) $$ Hout; iintro Hout
  iapply Hk
  isplitr; · iexact HR
  isplitr; · iexact Hlev
  isplitl [Hrings]; · iexact Hrings
  isplitl [Hin]; · iexact Hin
  isplitl [Hout]
  · iexists _
    isplitr
    rotate_left
    · iexact Hout
    · ipureintro; rw [hv]; exact out_stored m c b f hf
  isplitl [HO]; · iexact HO
  iexact HF

end Cert.RingAttn

end
-- ==== Proof.Run.lean ====
/- The run of the body.

   The hello at its head: a device raises both neighbours' barriers, handing over the slots they
   write, and waits until both have raised its own. Then the body is a chain of the blocks' rules. -/
module

public import proofs.«01_k».proof.Proof.Steps

@[expose] public section

set_option synthInstance.maxSize 4096

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

variable (m : (ℓ : Loc nD τ sig) → Buf (Elt F) ℓ)

/-! ## Small sums -/

theorem sum_three (Φ : Fin 3 → sProp 𝕄) : bigSep Finset.univ Φ = iprop(Φ 0 ∗ Φ 1 ∗ Φ 2) := by
  rw [bigSep_univ_eq_bigSepL [0, 1, 2] (by decide) (by decide), bigSepL_cons_cons, bigSepL_cons_cons, bigSepL_singleton]; rfl
theorem sum_four (Φ : Fin 4 → sProp 𝕄) : bigSep Finset.univ Φ = iprop(Φ 0 ∗ Φ 1 ∗ Φ 2 ∗ Φ 3) := by
  rw [bigSep_univ_eq_bigSepL [0, 1, 2, 3] (by decide) (by decide), bigSepL_cons_cons, bigSepL_cons_cons, bigSepL_cons_cons, bigSepL_singleton]; rfl
theorem sum_bool (Φ : Bool → sProp 𝕄) : bigSep Finset.univ Φ = iprop(Φ false ∗ Φ true) := by
  rw [bigSep_univ_eq_bigSepL [false, true] (by decide) (by decide), bigSepL_cons_cons, bigSepL_singleton]; rfl

theorem sum_sep {ι : Type} (s : Finset ι) (Φ Ψ : ι → sProp 𝕄) :
    bigSep s (fun i => iprop(Φ i ∗ Ψ i)) = iprop(bigSep s Φ ∗ bigSep s Ψ) := bigSep_sep s Φ Ψ

/-- A sum over all cells: the barrier's, the sends', the landings'. -/
theorem sum_cells (Φ : Cel → sProp 𝕄) : bigSep Finset.univ Φ
    = iprop(Φ none ∗ (bigSep Finset.univ fun x : Hop => Φ (some (false, x))) ∗ bigSep Finset.univ fun x : Hop => Φ (some (true, x))) := by
  have hu : ∀ Ψ : PUnit.{1} → sProp 𝕄, bigSep Finset.univ Ψ = Ψ ⟨⟩ := fun Ψ => by rw [Finset.univ_unique, bigSep_singleton]
  rw [bigSep_univ_equiv (Equiv.optionEquivSumPUnit (Bool × Hop)).symm Φ, bigSep_univ_sum, hu, bigSep_univ_prod, sum_bool]
  exact BI.equiv_iff.mp ⟨BI.sep_comm, BI.sep_comm⟩

theorem landing_eq (c : Dev nD) (r : Fin 4) : landing (F := F) c r = bigSep Finset.univ fun h : Fin 3 => anySlot (F := F) c r h.succ := by
  rw [sum_three]; rfl

/-! ## The communication buffer and its slots -/

theorem slots_all : (Finset.univ : Finset (Fin 4 × Fin 4)).biUnion (fun x => slotSet x.1 x.2) = Finset.univ :=
  Finset.eq_univ_of_forall fun i => Finset.mem_biUnion.mpr ⟨((i (0 : Fin 4) : Fin 4), (i (1 : Fin 4) : Fin 4)), Finset.mem_univ _, mem_slotSet.mpr ⟨rfl, rfl⟩⟩

theorem comm_eq (c : Dev nD) (f : (cc0_scratch0 : Ref sig .tc).ty.Contents (Elt F)) :
    ((((c : Thread nD τ).loc cc0_scratch0) ↦{fullShare} f) : sProp 𝕄)
      = bigSep Finset.univ fun r : Fin 4 => bigSep Finset.univ fun s : Fin 4 => slotPts c r s fullShare f := by
  have H := pointsTo_biUnion (Name := ℕ) (U := UU) (Lvl := ℕ) (Ix := Unit) (Val := Elt F) (ℓ := (c : Thread nD τ).loc cc0_scratch0) (q := fullShare) (f := f) (Finset.univ : Finset (Fin 4 × Fin 4))
    (fun x => slotSet x.1 x.2) (fun t _ t' _ h => slotSet_disjoint h)
  rw [bigSep_univ_prod] at H
  refine Eq.trans ?_ H
  exact congrArg (fun S => pointsTo ((c : Thread nD τ).loc cc0_scratch0) S fullShare f) slots_all.symm

theorem held_start (c : Dev nD) (r : Fin 4) (f : (cc0_scratch0 : Ref sig .tc).ty.Contents (Elt F)) :
    slotPts c r 0 fullShare f ⊢ held m c r 0 0 fullShare := by
  unfold held
  iintro H
  iexists f
  isplitr; · ipureintro; exact fun i _ h => absurd h (Nat.not_lt_zero _)
  iexact H

/-- The own slots are kept; the other slots go to the neighbours. -/
theorem comm_split (c : Dev nD) (f : (cc0_scratch0 : Ref sig .tc).ty.Contents (Elt F)) :
    ((((c : Thread nD τ).loc cc0_scratch0) ↦{fullShare} f) : sProp 𝕄)
      ⊢ iprop((bigSep Finset.univ fun r : Fin 4 => held m c r 0 0 fullShare) ∗ (landing (F := F) c 0 ∗ landing (F := F) c 2) ∗ landing (F := F) c 1 ∗ landing (F := F) c 3) := by
  have h1 : ∀ r : Fin 4, (bigSep Finset.univ fun s : Fin 4 => slotPts c r s fullShare f) ⊢ iprop(held m c r 0 0 fullShare ∗ landing (F := F) c r) := fun r => by
    rw [sum_four]
    unfold landing anySlot
    iintro ⟨H0, H1, H2, H3⟩
    isplitl [H0]; · iapply (held_start m c r f); iexact H0
    isplitl [H1]; · iexists f; iexact H1
    isplitl [H2]; · iexists f; iexact H2
    iexists f; iexact H3
  rw [comm_eq]
  refine BIBase.Entails.trans (bigSep_mono fun r _ => h1 r) ?_
  rw [sum_sep, sum_four fun r => landing (F := F) c r]
  iintro ⟨H, L0, L1, L2, L3⟩
  isplitl [H]; · iexact H
  isplitl [L0 L2]; · isplitl [L0] <;> iassumption
  isplitl [L1] <;> iassumption

/-! ## The state at the start and at the end -/

theorem ring_start (c : Dev nD) (r : Fin 4) :
    iprop((bigSep Finset.univ fun h : Fin 3 => iprop(dutyTok ER (sendCell c (r, h)) 0 false ∗ dutyTok ER (recvCell (tgt r c) (r, h)) 0 false))
      ∗ (bigSep Finset.univ fun h : Fin 3 => atPos ER (sendCell c (r, h)) 0 ∅ 0)
      ∗ (bigSep Finset.univ fun h : Fin 3 => atPos ER (recvCell c (r, h)) 0 ∅ 0)
      ∗ (bigSep Finset.univ fun h : Fin 3 => cred (tallyAt (recvCell c (r, h)) () N))
      ∗ held m c r 0 0 fullShare ∗ landing (F := F) (tgt r c) r)
      ⊢ ringSt m c r ⟨0, 0, 0, 0⟩ := by
  have eS : (bigSep Finset.univ fun h : Fin 3 => sendPart (F := F) c (r, h) 0 0)
      = bigSep Finset.univ fun h : Fin 3 => iprop(dutyTok ER (sendCell c (r, h)) 0 false ∗ dutyTok ER (recvCell (tgt r c) (r, h)) 0 false
          ∗ anySlot (F := F) (tgt r c) r h.succ ∗ atPos ER (sendCell c (r, h)) 0 ∅ 0) :=
    bigSep_congr fun h _ => by unfold sendPart; rw [if_neg (Nat.not_lt_zero _), if_neg (Nat.not_lt_zero _)]
  have eV : (bigSep Finset.univ fun h : Fin 3 => recvPart (F := F) c (r, h) 0)
      = bigSep Finset.univ fun h : Fin 3 => iprop(cred (tallyAt (recvCell c (r, h)) () N) ∗ atPos ER (recvCell c (r, h)) 0 ∅ 0) :=
    bigSep_congr fun h _ => by unfold recvPart; rw [if_neg (Nat.not_lt_zero _)]
  have eT : (bigSep Finset.univ fun j : Fin 4 => slotPart m c r ⟨0, 0, 0, 0⟩ j) = iprop(held m c r 0 0 fullShare ∗ emp ∗ emp ∗ emp) := by
    rw [sum_four]; rfl
  unfold ringSt
  dsimp only
  rw [eS, eV, eT, sum_sep, sum_sep, sum_sep, sum_sep, sum_sep, landing_eq]
  iintro ⟨⟨T1, T2⟩, AS, AV, C, H, Ld⟩
  isplitl [T1 T2 Ld AS]
  · isplitl [T1]; · iexact T1
    isplitl [T2]; · iexact T2
    isplitl [Ld] <;> iassumption
  isplitl [C AV]; · isplitl [C] <;> iassumption
  isplitl [H]; · iexact H
  isplitr; · iempintro
  isplitr <;> iempintro

/-- All four rings at the start. -/
theorem rings_start (c : Dev nD) :
    iprop((bigSep Finset.univ fun x : Hop => iprop(dutyTok ER (sendCell c x) 0 false ∗ dutyTok ER (recvCell (tgt x.1 c) x) 0 false))
      ∗ (bigSep Finset.univ fun x : Hop => atPos ER (sendCell c x) 0 ∅ 0)
      ∗ (bigSep Finset.univ fun x : Hop => atPos ER (recvCell c x) 0 ∅ 0)
      ∗ (bigSep Finset.univ fun x : Hop => cred (tallyAt (recvCell c x) () N))
      ∗ (bigSep Finset.univ fun r : Fin 4 => held m c r 0 0 fullShare) ∗ bigSep Finset.univ fun r : Fin 4 => landing (F := F) (tgt r c) r)
      ⊢ bigSep Finset.univ fun r => ringSt m c r ⟨0, 0, 0, 0⟩ := by
  refine Entails.trans (Entails.of_eq ?_) (bigSep_mono fun r _ => ring_start m c r)
  rw [bigSep_univ_prod, bigSep_univ_prod, bigSep_univ_prod, bigSep_univ_prod, sum_sep, sum_sep, sum_sep, sum_sep, sum_sep]

/-- One ring at the end: every counter is back at zero, every slot is whole. -/
theorem ring_end (c : Dev nD) (r : Fin 4) :
    ringSt m c r ⟨4, 3, 3, 3⟩ ⊢ iprop((bigSep Finset.univ fun h : Fin 3 => semVal (sendCell c (r, h)) 0)
      ∗ (bigSep Finset.univ fun h : Fin 3 => semVal (recvCell c (r, h)) 0)
      ∗ bigSep Finset.univ fun s : Fin 4 => slotPts c r s fullShare (commF m c)) := by
  have eS : (bigSep Finset.univ fun h : Fin 3 => sendPart (F := F) c (r, h) 3 3) = bigSep Finset.univ fun h : Fin 3 => semVal (sendCell c (r, h)) 0 :=
    bigSep_congr fun h _ => by unfold sendPart; rw [if_pos h.isLt]
  have eV : (bigSep Finset.univ fun h : Fin 3 => recvPart (F := F) c (r, h) 3) = bigSep Finset.univ fun h : Fin 3 => semVal (recvCell c (r, h)) 0 :=
    bigSep_congr fun h _ => by unfold recvPart; rw [if_pos h.isLt]
  have eT : (bigSep Finset.univ fun j : Fin 4 => slotPart m c r ⟨4, 3, 3, 3⟩ j) ⊢ bigSep Finset.univ fun s : Fin 4 => slotPts c r s fullShare (commF m c) :=
    bigSep_mono fun j _ => by
      rw [slotPart_four m c r 3 3 3 j (by have := j.isLt; omega), if_neg (fun h => by have := h.1; have := h.2; omega)]
      exact (held_full m c r j fullShare).1
  unfold ringSt
  dsimp only
  rw [eS, eV]
  exact BI.sep_mono (BI.Entails.refl _) (BI.sep_mono (BI.Entails.refl _) eT)

/-- All four rings at the end. -/
theorem rings_end (c : Dev nD) :
    (bigSep Finset.univ fun r => ringSt m c r ⟨4, 3, 3, 3⟩)
      ⊢ iprop((bigSep Finset.univ fun k : Bool × Hop => semVal (((c : Thread nD τ), osem k) : GSem nD τ sig) 0)
        ∗ (((c : Thread nD τ).loc cc0_scratch0) ↦{fullShare} commF m c)) := by
  refine BIBase.Entails.trans (bigSep_mono fun r _ => ring_end m c r) ?_
  rw [sum_sep, sum_sep, comm_eq, bigSep_univ_prod, sum_bool, bigSep_univ_prod, bigSep_univ_prod]
  iintro ⟨A, B, C⟩
  isplitl [A B]
  · isplitl [A]; · iexact A
    iexact B
  iexact C

/-! ## The hello -/

/-- What a device holds when its body starts. -/
def Start (R : sProp 𝕄) (c : Dev nD) : sProp 𝕄 :=
  iprop((∃ K, records m K) ∗ levAts L lv
    ∗ (bigSep Finset.univ fun k : Cel => atPos ER (cellAt c k) 0 ∅ 0)
    ∗ (dutyTok ER (barCell (prv c)) 0 true ∗ dutyTok ER (barCell (nxt c)) 0 false
      ∗ bigSep Finset.univ fun x : Hop => iprop(dutyTok ER (sendCell c x) 0 false ∗ dutyTok ER (recvCell (tgt x.1 c) x) 0 false))
    ∗ (cred (tallyAt (barCell c) () 2) ∗ bigSep Finset.univ fun x : Hop => cred (tallyAt (recvCell c x) () N))
    ∗ (∃ f : (cc0_scratch0 : Ref sig .tc).ty.Contents (Elt F), ((c : Thread nD τ).loc cc0_scratch0) ↦{fullShare} f)
    ∗ inputs m c ∗ outHeld m c 0 ∗ ow (F := F) c (O₀ c) ∗ R)

theorem dev1_prv (c : Dev nD) : (⟨k0_dev1 c, k0_dev1_lt c⟩ : Dev nD) = prv c := Fin.ext (k0_dev1_eq c)
theorem dev2_nxt (c : Dev nD) : (⟨k0_dev2 c, k0_dev2_lt c⟩ : Dev nD) = nxt c := Fin.ext (k0_dev2_eq c)

set_option maxHeartbeats 800000 in
theorem hello_spec (R : sProp 𝕄) (c : Dev nD) (k : FVec F S1024x512 .bf16 → P F) (Kt : PUnit → sProp 𝕄)
    (H : St m iprop(semVal (barCell c) 0 ∗ R) c (fun _ => ⟨0, 0, 0, 0⟩) 0 order ⊢ Run c (k (qV m c)) Kt) :
    Start m R c ⊢ Run c (helloStep c k) Kt := by
  refine run_then H ?_
  unfold Start
  rw [sum_cells]
  iintro ⟨⟨%K, #HR⟩, #Hlev, ⟨HatB, HatS, HatV⟩, ⟨HtP, HtN, Htok⟩, ⟨HcB, HcV⟩, ⟨%f0, Hcomm⟩, Hin, Hout, HO, HF⟩ Hk
  unfold ow
  icases HO with ⟨%W, HO⟩
  ihave Hs := (comm_split m c f0) $$ Hcomm
  icases Hs with ⟨Hheld, HL02, HL13⟩
  unfold helloStep
  simp only [dev1_prv c, dev2_nxt c]
  ihave #HIp := (inv_at m K (prv c) none) $$ HR
  ihave #HIn := (inv_at m K (nxt c) none) $$ HR
  ihave #HIc := (inv_at m K c none) $$ HR
  ihave #Hrp := (reached_at m K (prv c) none) $$ HR
  ihave #Hrn := (reached_at m K (nxt c) none) $$ HR
  iapply (Rounds.wp_signal 𝒱₀ ER (ringRd m) (c : Thread nD τ) none (dst := ((prv c : Dev nD) : Thread nD τ)) (κ := K (prv c, none))
      (d := true) (by rw [duties_bar]; exact Finset.mem_univ _) ((amount_bar m (prv c) true).trans (by decide)) () (O₁ c) rfl)
    $$ [HO HtP HL02]
  · isplitr; · iexact HIp
    isplitl [HO]; · iexact HO
    isplitl [HtP]; · iexact HtP
    isplitl [HL02]; · rw [payload_bar_true, nxt_prv]; iexact HL02
    iexact Hrp
  iintro HO
  iapply (Rounds.wp_signal 𝒱₀ ER (ringRd m) (c : Thread nD τ) none (dst := ((nxt c : Dev nD) : Thread nD τ)) (κ := K (nxt c, none))
      (d := false) (by rw [duties_bar]; exact Finset.mem_univ _) ((amount_bar m (nxt c) false).trans (by decide)) () (owedSum c order) rfl)
    $$ [HO HtN HL13]
  · isplitr; · iexact HIn
    isplitl [HO]; · iexact HO
    isplitl [HtN]; · iexact HtN
    isplitl [HL13]; · rw [payload_bar_false, prv_nxt]; iexact HL13
    iexact Hrn
  iintro HO
  iapply (Rounds.wp_wait_rest_token 𝒱₀ ER (ringRd m) (c : Thread nD τ) none (κ := K (c, none))
      (wpE_semWait_eq 𝒱₀ (c : Thread nD τ) none Set.univ) (Set.mem_univ _) () (O := owedSum c order) (W := W) (R := 0) (m := 0) (T := ∅)
      (by rw [expect_bar]; decide)) $$ [HcB HO HatB]
  · isplitr; · iexact HIc
    isplitl [HcB]; · iexact HcB
    isplitl [HO]; · iexact HO
    isplitr; · iapply (mayWait_bar c order); iexact Hlev
    iexact HatB
  iintro ⟨HO, HatB, -, Hpay⟩
  ihave Hp := (Entails.of_eq (rest_bar m c)) $$ Hpay
  icases Hp with ⟨⟨L1, L3⟩, L0, L2⟩
  imod (Rounds.cell_close ER (ringRd m) (Set.mem_univ (K (c, none))) (fun h => h) (R := 0 + 1) (duties_later m (barCell c))) $$ [HatB] with HzB
  · isplitr; · iexact HIc
    iexact HatB
  unfold inputs
  icases Hin with ⟨Hx, Hwq, Hkk, Hvv, Hwo⟩
  iapply (wp_load 𝒱₀ (c : Thread nD τ) none Set.univ (m := mX) (Finset.subset_univ _)) $$ Hx; iintro Hx
  iapply (wp_load 𝒱₀ (c : Thread nD τ) none Set.univ (m := mWq) (Finset.subset_univ _)) $$ Hwq; iintro Hwq
  iapply Hk
  unfold St inputs
  isplitr; · iexists K; iexact HR
  isplitr; · iexact Hlev
  isplitl [Htok HatS HatV HcV Hheld L0 L1 L2 L3]
  · iapply (rings_start m c)
    isplitl [Htok]; · iexact Htok
    isplitl [HatS]; · iexact HatS
    isplitl [HatV]; · iexact HatV
    isplitl [HcV]; · iexact HcV
    isplitl [Hheld]; · iexact Hheld
    rw [sum_four]
    isplitl [L0]; · iexact L0
    isplitl [L1]; · iexact L1
    isplitl [L2]; · iexact L2
    iexact L3
  isplitl [Hx Hwq Hkk Hvv Hwo]
  · isplitl [Hx]; · iexact Hx
    isplitl [Hwq]; · iexact Hwq
    isplitl [Hkk]; · iexact Hkk
    isplitl [Hvv] <;> iassumption
  isplitl [Hout]; · iexact Hout
  isplitl [HO]; · unfold ow; iexists _; iexact HO
  isplitl [HzB] <;> iassumption

/-! ## The whole body -/

theorem heads_spec (R : sProp 𝕄) (c : Dev nD) (r : Fin 4) (l : List Hop) (p : Fin 4 → Cnt) (n : ℕ) (hp : p r = ⟨0, 0, 0, 0⟩)
    (k : P F) (Kt : PUnit → sProp 𝕄) (H : St m R c (Function.update p r ⟨4, 0, 0, 0⟩) n l ⊢ Run c k Kt) :
    St m R c p n l ⊢ Run c (headsStep r (qV m c) k) Kt := by
  unfold headsStep
  refine head_spec m R c r 0 l p n hp _ _ ?_
  refine head_spec m R c r 1 l _ n (Function.update_self ..) _ _ ?_
  rw [Function.update_idem]
  refine head_spec m R c r 2 l _ n (Function.update_self ..) _ _ ?_
  rw [Function.update_idem]
  refine head_spec m R c r 3 l _ n (Function.update_self ..) _ _ ?_
  rw [Function.update_idem]
  exact H

theorem sentAll_spec (R : sProp 𝕄) (c : Dev nD) (p : Fin 4 → Cnt) (n : ℕ) (hp : p = fun _ => ⟨4, 3, 3, 0⟩) (k : P F) (Kt : PUnit → sProp 𝕄)
    (H : St m R c (fun _ => ⟨4, 3, 3, 3⟩) n [] ⊢ Run c k Kt) : St m R c p n [] ⊢ Run c (sentAll k) Kt := by
  subst hp
  unfold sentAll
  refine sent_spec m _ c 0 0 _ _ rfl _ _ ?_
  refine sent_spec m _ c 1 0 _ _ rfl _ _ ?_
  refine sent_spec m _ c 2 0 _ _ rfl _ _ ?_
  refine sent_spec m _ c 0 1 _ _ rfl _ _ ?_
  refine sent_spec m _ c 3 0 _ _ rfl _ _ ?_
  refine sent_spec m _ c 1 1 _ _ rfl _ _ ?_
  refine sent_spec m _ c 2 1 _ _ rfl _ _ ?_
  refine sent_spec m _ c 0 2 _ _ rfl _ _ ?_
  refine sent_spec m _ c 3 1 _ _ rfl _ _ ?_
  refine sent_spec m _ c 1 2 _ _ rfl _ _ ?_
  refine sent_spec m _ c 2 2 _ _ rfl _ _ ?_
  refine sent_spec m _ c 3 2 _ _ rfl _ _ ?_
  refine (Entails.of_eq (congrArg (fun p => St m R c p n []) (funext fun r => ?_))).trans H
  fin_cases r <;> rfl

/-- The counts written anew. -/
theorem restate (R : sProp 𝕄) (c : Dev nD) (p p' : Fin 4 → Cnt) (n : ℕ) (l : List Hop) (hp : p = p') {Q : sProp 𝕄} (H : St m R c p' n l ⊢ Q) :
    St m R c p n l ⊢ Q := hp ▸ H

set_option maxHeartbeats 1600000 in
/-- The run of the body: it ends with everything sent, landed and stored, and nothing owed. -/
theorem body_run (R : sProp 𝕄) (c : Dev nD) (Kt : PUnit → sProp 𝕄)
    (H : St m iprop(semVal (barCell c) 0 ∗ R) c (fun _ => ⟨4, 3, 3, 3⟩) 2 [] ⊢ Kt ⟨⟩) : Start m R c ⊢ Run c (bodyOn c) Kt := by
  unfold bodyOn
  refine hello_spec m R c _ _ ?_
  refine heads_spec m _ c 0 _ _ _ rfl _ _ ?_
  refine send_spec m _ c 0 0 _ _ _ _ _ (Fin.ext (k0_dev3_eq c)) rfl (by decide) _ _ ?_
  refine heads_spec m _ c 1 _ _ _ rfl _ _ ?_
  refine send_spec m _ c 1 0 _ _ _ _ _ (Fin.ext (k0_dev4_eq c)) rfl (by decide) _ _ ?_
  refine restate m _ c _ ![⟨4, 1, 0, 0⟩, ⟨4, 1, 0, 0⟩, ⟨0, 0, 0, 0⟩, ⟨0, 0, 0, 0⟩] _ _ (funext fun r => by fin_cases r <;> rfl) ?_
  refine heads_spec m _ c 2 _ _ _ rfl _ _ ?_
  refine send_spec m _ c 2 0 _ _ _ _ _ (Fin.ext (k0_dev5_eq c)) rfl (by decide) _ _ ?_
  refine recv_spec m _ c 0 0 _ _ _ _ rfl (by decide) (by decide) _ _ ?_
  refine send_spec m _ c 0 1 _ _ _ _ _ (Fin.ext (k0_dev6_eq c)) rfl (by decide) _ _ ?_
  refine restate m _ c _ ![⟨4, 2, 1, 0⟩, ⟨4, 1, 0, 0⟩, ⟨4, 1, 0, 0⟩, ⟨0, 0, 0, 0⟩] _ _ (funext fun r => by fin_cases r <;> rfl) ?_
  refine heads_spec m _ c 3 _ _ _ rfl _ _ ?_
  refine send_spec m _ c 3 0 _ _ _ _ _ (Fin.ext (k0_dev7_eq c)) rfl (by decide) _ _ ?_
  refine recv_spec m _ c 1 0 _ _ _ _ rfl (by decide) (by decide) _ _ ?_
  refine send_spec m _ c 1 1 _ _ _ _ _ (Fin.ext (k0_dev8_eq c)) rfl (by decide) _ _ ?_
  refine restate m _ c _ ![⟨4, 2, 1, 0⟩, ⟨4, 2, 1, 0⟩, ⟨4, 1, 0, 0⟩, ⟨4, 1, 0, 0⟩] _ _ (funext fun r => by fin_cases r <;> rfl) ?_
  refine prod_spec m _ c 0 0 _ _ _ _ _ rfl (by decide) _ _ _ _ ?_
  refine prod_spec m _ c 1 0 _ _ _ _ _ rfl (by decide) _ _ _ _ ?_
  refine prod_spec m _ c 2 0 _ _ _ _ _ rfl (by decide) _ _ _ _ ?_
  refine prod_spec m _ c 3 0 _ _ _ _ _ rfl (by decide) _ _ _ _ ?_
  refine recv_spec m _ c 2 0 _ _ _ _ rfl (by decide) (by decide) _ _ ?_
  refine send_spec m _ c 2 1 _ _ _ _ _ (Fin.ext (k0_dev9_eq c)) rfl (by decide) _ _ ?_
  refine prod_spec m _ c 0 1 _ _ _ _ _ rfl (by decide) _ _ _ _ ?_
  refine recv_spec m _ c 0 1 _ _ _ _ rfl (by decide) (by decide) _ _ ?_
  refine send_spec m _ c 0 2 _ _ _ _ _ (Fin.ext (k0_dev10_eq c)) rfl (by decide) _ _ ?_
  refine restate m _ c _ ![⟨4, 3, 2, 0⟩, ⟨4, 2, 1, 0⟩, ⟨4, 2, 1, 0⟩, ⟨4, 1, 0, 0⟩] _ _ (funext fun r => by fin_cases r <;> rfl) ?_
  refine prod_spec m _ c 1 1 _ _ _ _ _ rfl (by decide) _ _ _ _ ?_
  refine recv_spec m _ c 3 0 _ _ _ _ rfl (by decide) (by decide) _ _ ?_
  refine send_spec m _ c 3 1 _ _ _ _ _ (Fin.ext (k0_dev11_eq c)) rfl (by decide) _ _ ?_
  refine prod_spec m _ c 2 1 _ _ _ _ _ rfl (by decide) _ _ _ _ ?_
  refine recv_spec m _ c 1 1 _ _ _ _ rfl (by decide) (by decide) _ _ ?_
  refine send_spec m _ c 1 2 _ _ _ _ _ (Fin.ext (k0_dev12_eq c)) rfl (by decide) _ _ ?_
  refine restate m _ c _ ![⟨4, 3, 2, 0⟩, ⟨4, 3, 2, 0⟩, ⟨4, 2, 1, 0⟩, ⟨4, 2, 1, 0⟩] _ _ (funext fun r => by fin_cases r <;> rfl) ?_
  refine prod_spec m _ c 3 1 _ _ _ _ _ rfl (by decide) _ _ _ _ ?_
  refine recv_spec m _ c 2 1 _ _ _ _ rfl (by decide) (by decide) _ _ ?_
  refine send_spec m _ c 2 2 _ _ _ _ _ (Fin.ext (k0_dev13_eq c)) rfl (by decide) _ _ ?_
  refine prod_spec m _ c 0 2 _ _ _ _ _ rfl (by decide) _ _ _ _ ?_
  refine recv_spec m _ c 0 2 _ _ _ _ rfl (by decide) (by decide) _ _ ?_
  refine prod_spec m _ c 1 2 _ _ _ _ _ rfl (by decide) _ _ _ _ ?_
  refine recv_spec m _ c 3 1 _ _ _ _ rfl (by decide) (by decide) _ _ ?_
  refine restate m _ c _ ![⟨4, 3, 3, 0⟩, ⟨4, 3, 2, 0⟩, ⟨4, 3, 2, 0⟩, ⟨4, 2, 2, 0⟩] _ _ (funext fun r => by fin_cases r <;> rfl) ?_
  refine send_spec m _ c 3 2 _ _ _ _ _ (Fin.ext (k0_dev14_eq c)) rfl (by decide) _ _ ?_
  refine prod_spec m _ c 2 2 _ _ _ _ _ rfl (by decide) _ _ _ _ ?_
  refine recv_spec m _ c 1 2 _ _ _ _ rfl (by decide) (by decide) _ _ ?_
  refine prod_spec m _ c 3 2 _ _ _ _ _ rfl (by decide) _ _ _ _ ?_
  refine prod_spec m _ c 0 3 _ _ _ _ _ rfl (by decide) _ _ _ _ ?_
  refine recv_spec m _ c 2 2 _ _ _ _ rfl (by decide) (by decide) _ _ ?_
  refine prod_spec m _ c 1 3 _ _ _ _ _ rfl (by decide) _ _ _ _ ?_
  refine prod_spec m _ c 2 3 _ _ _ _ _ rfl (by decide) _ _ _ _ ?_
  refine recv_spec m _ c 3 2 _ _ _ _ rfl (by decide) (by decide) _ _ ?_
  refine restate m _ c _ ![⟨4, 3, 3, 0⟩, ⟨4, 3, 3, 0⟩, ⟨4, 3, 3, 0⟩, ⟨4, 3, 3, 0⟩] _ _ (funext fun r => by fin_cases r <;> rfl) ?_
  refine prod_spec m _ c 3 3 _ _ _ _ _ rfl (by decide) _ _ _ _ ?_
  refine sentAll_spec m _ c _ _ (funext fun r => by fin_cases r <;> rfl) _ _ ?_
  refine out_spec m _ c 0 _ _ _ rfl _ _ ?_
  refine out_spec m _ c 1 _ _ _ rfl _ _ ?_
  refine H.trans ?_
  rw [Run, wp_ret]
  iintro H; imodintro; iexact H

end Cert.RingAttn

end
-- ==== Proof.Launch.lean ====
/- The launch: the protocol's ghost state is made on all devices at once, every device's body is
   run from it, and the arrays are read off at the end. -/
module

public import proofs.«01_k».proof.Proof.Run
public import proofs.«01_k».proof.Proof.Gen.KernelIdeal.Points
public import proofs.«01_k».proof.Proof.Gen.KernelIdeal.Launch
public import Idealize.ShloMosaic.Lib.Pipeline.CollectiveSegs

@[expose] public section

set_option synthInstance.maxSize 4096

noncomputable section

namespace Cert.RingAttn

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

/-! ## The body's obligation -/

/-- The ghost state of a device before its body. -/
def Ghost (c : Dev nD) : sProp 𝕄 :=
  iprop((∃ K, records m K)
    ∗ (bigSep Finset.univ fun k : Cel => atPos ER (cellAt c k) 0 ∅ 0)
    ∗ (dutyTok ER (barCell (prv c)) 0 true ∗ dutyTok ER (barCell (nxt c)) 0 false
      ∗ bigSep Finset.univ fun x : Hop => iprop(dutyTok ER (sendCell c x) 0 false ∗ dutyTok ER (recvCell (tgt x.1 c) x) 0 false)))
def begun (c : Dev nD) : sProp 𝕄 :=
  iprop(Ghost m c ∗ levAts L lv
    ∗ (cred (tallyAt (barCell c) () 2) ∗ bigSep Finset.univ fun x : Hop => cred (tallyAt (recvCell c x) () N)))
def Φ₀ (c : Dev nD) : sProp 𝕄 :=
  iprop(begun m c ∗ (∃ f : (cc0_scratch0 : Ref sig .tc).ty.Contents (Elt F), ((c : Thread nD τ).loc cc0_scratch0) ↦{fullShare} f))
/-- What is left after it: the counters at zero, and the communication buffer. -/
def Φ₁ (c : Dev nD) : sProp 𝕄 :=
  iprop(semVal (barCell c) 0 ∗ (bigSep Finset.univ fun k : Bool × Hop => semVal (((c : Thread nD τ), osem k) : GSem nD τ sig) 0)
    ∗ (((c : Thread nD τ).loc cc0_scratch0) ↦{fullShare} commF m c))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wqS m c
    | ⟨2, _⟩ => kS m c
    | ⟨3, _⟩ => vS m c
    | ⟨4, _⟩ => woS m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ m c ∗ (dats m ρ 0 c).owesAt () t0_0.succ ∗ stg c cc0_stg0_0 (xS m c) ∗ stg c cc0_stg1_0 (wqS m c)
    ∗ stg c cc0_stg2_0 (kS m c) ∗ stg c cc0_stg3_0 (vS m c) ∗ stg c cc0_stg4_0 (woS m c) ∗ stg c cc0_stg5_0 (outAt m c))

/-- The state at the body's end is what is to be left. -/
theorem post_of_end (c : Dev nD) :
    St m iprop(semVal (barCell c) 0 ∗ emp) c (fun _ => ⟨4, 3, 3, 3⟩) 2 [] ⊢ bodyPost m ρ c := by
  unfold St bodyPost Φ₁ inputs outHeld ow Dat.owesAt Pipeline.owesWithin
  iintro ⟨-, -, Hr, ⟨Hx, Hwq, Hk, Hv, Hwo⟩, ⟨%f, %hf, Hout⟩, ⟨%W, HO⟩, HzB, -⟩
  ihave Hr' := (rings_end m c) $$ Hr
  icases Hr' with ⟨Hz, Hcomm⟩
  isplitl [Hz Hcomm HzB]
  · isplitl [HzB]; · iexact HzB
    isplitl [Hz] <;> iassumption
  isplitl [HO]
  · iexists W
    isplitr; · ipureintro; exact fun _ _ => Or.inl trivial
    iexact HO
  isplitl [Hx]; · iexists xS m c; isplitr; (· ipureintro; rfl); iexact Hx
  isplitl [Hwq]; · iexists wqS m c; isplitr; (· ipureintro; rfl); iexact Hwq
  isplitl [Hk]; · iexists kS m c; isplitr; (· ipureintro; rfl); iexact Hk
  isplitl [Hv]; · iexists vS m c; isplitr; (· ipureintro; rfl); iexact Hv
  isplitl [Hwo]; · iexists woS m c; isplitr; (· ipureintro; rfl); iexact Hwo
  iexists f
  isplitr
  · ipureintro; exact funext fun j => hf j (j (0 : Fin 3)).isLt
  iexact Hout

theorem start_of_pre (c : Dev nD) : bodyPre m ρ c ⊢ Start m iprop(emp) c := by
  unfold bodyPre Start Φ₀ begun Ghost inputs outHeld ow Dat.owesAt Pipeline.owesWithin
  iintro ⟨⟨⟨⟨HK, Hat, Htok⟩, #Hlev, Hcr⟩, Hcomm⟩, ⟨%W, %hW, HO⟩, ⟨%d0, %g0, %h0, Hx⟩, ⟨%d1, %g1, %h1, Hwq⟩, ⟨%d2, %g2, %h2, Hk⟩, ⟨%d3, %g3, %h3, Hv⟩,
    ⟨%d4, %g4, %h4, Hwo⟩, ⟨%d5, %g5, %h5, Hout⟩⟩
  have e0 : g0 = xS m c := by rw [h0]; unfold Dat.before; rw [if_pos (fetch0_0 t0_0)]; rfl
  have e1 : g1 = wqS m c := by rw [h1]; unfold Dat.before; rw [if_pos (fetch0_1 t0_0)]; rfl
  have e2 : g2 = kS m c := by rw [h2]; unfold Dat.before; rw [if_pos (fetch0_2 t0_0)]; rfl
  have e3 : g3 = vS m c := by rw [h3]; unfold Dat.before; rw [if_pos (fetch0_3 t0_0)]; rfl
  have e4 : g4 = woS m c := by rw [h4]; unfold Dat.before; rw [if_pos (fetch0_4 t0_0)]; rfl
  subst e0 e1 e2 e3 e4
  isplitl [HK]; · iexact HK
  isplitr; · iexact Hlev
  isplitl [Hat]; · iexact Hat
  isplitl [Htok]; · iexact Htok
  isplitl [Hcr]; · iexact Hcr
  isplitl [Hcomm]; · iexact Hcomm
  isplitl [Hx Hwq Hk Hv Hwo]
  · isplitl [Hx]; · iexact Hx
    isplitl [Hwq]; · iexact Hwq
    isplitl [Hk]; · iexact Hk
    isplitl [Hv] <;> iassumption
  isplitl [Hout]
  · iexists g5
    isplitr; · ipureintro; exact fun j hj => absurd hj (Nat.not_lt_zero _)
    iexact Hout
  isplitl [HO]; · iexists W; iexact HO
  iempintro

/-- The body, from what the launch gives it to what it leaves. -/
theorem sound_body (c : Dev nD) :
    bodyPre m ρ c ⊢ wp frame (wpE (defs₀ (F := F)) 𝒱₀ (c : Thread nD τ) none) Set.univ
      (cc0_body mX (Memref.isWhole_whole _) mWq (Memref.isWhole_whole _) mK (Memref.isWhole_whole _)
        mV (Memref.isWhole_whole _) mWo (Memref.isWhole_whole _) mOut (Memref.isWhole_whole _) mComm (Memref.isWhole_whole _) cc0_scratch1 cc0_scratch2)
      (fun _ => bodyPost m ρ c) := by
  rw [cc0_body_eq_skeleton, body_eq, wp_deviceId]
  exact (start_of_pre m ρ c).trans (body_run m iprop(emp) c (fun _ => bodyPost m ρ c) (post_of_end m ρ c))

set_option maxRecDepth 65536 in
theorem body_obligation (c : Dev nD) : BodyObligation (dats (F := F) m ρ 0 c) (defs₀ (F := F)) 𝒱₀ () Set.univ := fun t => by
  rw [fin_N0 t, bigSep_W0, bigSep_W0]
  simp only [owns_whole]
  exact sound_body m ρ c

/-! ## The ghost state made -/

set_option maxRecDepth 16384 in
theorem ownSemFacts : Pipeline.OwnSemFacts cfg0.spec osem := by decide +kernel

theorem share_eq (c : Dev nD) (w : Fin cfg0.W) : (dats m ρ 0 c).share w = fullShare := by unfold Dat.share; split <;> rfl

theorem cellAt_injective : Function.Injective (fun ck : Dev nD × Cel => cellAt ck.1 ck.2) := by
  rintro ⟨c, k⟩ ⟨c', k'⟩ h
  have h1 : c = c' := congrArg (fun g : GSem nD τ sig => g.1.1) h
  have h2 : k = k' := csem_injective (congrArg Prod.snd h)
  rw [h1, h2]
def ringCells : Finset (GSem nD τ sig) := Finset.univ.map ⟨_, cellAt_injective⟩

/-- The duties of one device: the barrier's two, and one of each hop's cells. -/
abbrev Duty : Type := Bool ⊕ (Bool × Hop)
abbrev tokOf (cj : Dev nD × Duty) : GSem nD τ sig × ℕ × Bool := match cj.2 with
  | .inl d => (barCell cj.1, 0, d)
  | .inr k => (cellAt cj.1 (some k), 0, false)
theorem tokOf_injective : Function.Injective tokOf := by
  rintro ⟨c, j⟩ ⟨c', j'⟩ h
  have h1 : c = c' := by
    have := congrArg (fun x : GSem nD τ sig × ℕ × Bool => x.1.1.1) h
    rcases j with _ | _ <;> rcases j' with _ | _ <;> exact this
  have h2 : j = j' := by
    have hs := congrArg (fun x : GSem nD τ sig × ℕ × Bool => x.1.2) h
    have hd := congrArg (fun x : GSem nD τ sig × ℕ × Bool => x.2.2) h
    rcases j with d | k <;> rcases j' with d' | k'
    · exact congrArg Sum.inl hd
    · exact absurd (csem_injective (a₁ := none) (a₂ := some k') hs) (fun h => nomatch h)
    · exact absurd (csem_injective (a₁ := some k) (a₂ := none) hs) (fun h => nomatch h)
    · exact congrArg Sum.inr (osem_injective hs)
  rw [h1, h2]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of a device's own cells. -/
def toks (c : Dev nD) : sProp 𝕄 :=
  iprop((dutyTok ER (barCell c) 0 false ∗ dutyTok ER (barCell c) 0 true)
    ∗ (bigSep Finset.univ fun x : Hop => dutyTok ER (sendCell c x) 0 false) ∗ bigSep Finset.univ fun x : Hop => dutyTok ER (recvCell c x) 0 false)

/-- What a device is dealt, and what all of them make of it. -/
def G (c : Dev nD) : sProp 𝕄 :=
  iprop((bigSep Finset.univ fun k : Cel => roundState ER (ringRd m) (cellAt c k) 0)
    ∗ ((bigSep Finset.univ fun k : Cel => atPos ER (cellAt c k) 0 ∅ 0) ∗ bigSep Finset.univ fun k : Cel => reached ER (cellAt c k) 0) ∗ toks c)

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Cel => Φ (cellAt c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, sum_bool, bigSep_univ_prod, sum_bool]; rfl
  iintro HX
  imod (Rounds.fund ER (ringRd m) ringCells ringToks) $$ HX with ⟨Hst, Hr, Hat, Htok⟩
  imodintro
  ihave Hst' := (Entails.of_eq (hX fun g => roundState ER (ringRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [sum_sep]
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = bigSep Finset.univ fun k : Bool × Hop => semVal (((c : Thread nD τ), osem k) : GSem nD τ sig) 0 := by
  unfold Pipeline.ownSems0; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Cel => semVal (cellAt c k) 0 : sProp 𝕄) := by
  rw [ownSems0_eq, unscopedSems0_eq, sum_cells, bigSep_univ_prod, sum_bool]
  iintro ⟨⟨HS, HV⟩, HB⟩
  isplitl [HB]; · iexact HB
  isplitl [HS]; · iexact HS
  iexact HV

theorem cell_alloc (c : Dev nD) :
    iprop((bigSep Finset.univ fun k : Cel => semVal (cellAt c k) 0) ∗ bigSep Finset.univ fun k : Cel => roundState ER (ringRd m) (cellAt c k) 0)
      ⊢ (|={Set.univ}=> bigSep Finset.univ fun k => iprop(∃ κ : ℕ, cellInv ER (ringRd m) κ (cellAt c k)) : sProp 𝕄) := by
  rw [← sum_sep]
  exact (bigSep_mono fun k _ => (Rounds.body_intro ER (ringRd m) (cellAt c k)).trans inv_alloc).trans (bigSep_fupd _ _)

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (ringRd m) κ (cellAt c k)))
          ∗ ((bigSep Finset.univ fun k : Cel => atPos ER (cellAt c k) 0 ∅ 0) ∗ bigSep Finset.univ fun k : Cel => reached ER (cellAt c k) 0) ∗ toks c) := by
  unfold G
  iintro ⟨Hos, Hus, Hst, Hat, Htok⟩
  ihave Hv := (sems0_eq (F := F) c) $$ [Hos Hus]
  · isplitl [Hos] <;> iassumption
  imod (cell_alloc m c) $$ [Hv Hst] with Hinv
  · isplitl [Hv] <;> iassumption
  imodintro
  isplitl [Hinv]; · iexact Hinv
  isplitl [Hat]; · iexact Hat
  iexact Htok

/-- The tokens of the duties that a device pays. -/
def payToks (c : Dev nD) : sProp 𝕄 :=
  iprop(dutyTok ER (barCell (prv c)) 0 true ∗ dutyTok ER (barCell (nxt c)) 0 false
      ∗ bigSep Finset.univ fun x : Hop => iprop(dutyTok ER (sendCell c x) 0 false ∗ dutyTok ER (recvCell (tgt x.1 c) x) 0 false))

theorem sum_swap {ι κ : Type} [Fintype ι] [Fintype κ] (Φ : ι → κ → sProp 𝕄) :
    (bigSep Finset.univ fun i => bigSep Finset.univ fun j => Φ i j) = bigSep Finset.univ fun j => bigSep Finset.univ fun i => Φ i j := by
  rw [← bigSep_univ_prod (fun x : ι × κ => Φ x.1 x.2), ← bigSep_univ_prod (fun x : κ × ι => Φ x.2 x.1),
    bigSep_univ_equiv (Equiv.prodComm κ ι) (fun x : ι × κ => Φ x.1 x.2)]
  rfl

/-- Landings' tokens go against the ring's direction. -/
theorem recv_around : (bigSep Finset.univ fun c : Dev nD => bigSep Finset.univ fun x : Hop => (dutyTok ER (recvCell c x) 0 false : sProp 𝕄))
    = bigSep Finset.univ fun c : Dev nD => bigSep Finset.univ fun x : Hop => dutyTok ER (recvCell (tgt x.1 c) x) 0 false := by
  rw [sum_swap, sum_swap (fun (c : Dev nD) (x : Hop) => (dutyTok ER (recvCell (tgt x.1 c) x) 0 false : sProp 𝕄))]
  exact bigSep_congr fun x _ => bigSep_univ_equiv (ringEquiv x.1) (fun c : Dev nD => (dutyTok ER (recvCell c x) 0 false : sProp 𝕄))

theorem toks_around : (bigSep Finset.univ fun c : Dev nD => (toks c : sProp 𝕄)) ⊢ bigSep Finset.univ fun c : Dev nD => payToks c := by
  unfold toks payToks
  simp only [sum_sep]
  rw [recv_around, bigSep_univ_equiv nxtEquiv (fun c : Dev nD => (dutyTok ER (barCell c) 0 false : sProp 𝕄)),
    bigSep_univ_equiv nxtEquiv.symm (fun c : Dev nD => (dutyTok ER (barCell c) 0 true : sProp 𝕄))]
  iintro ⟨⟨H1, H2⟩, H3, H4⟩
  isplitl [H2]; · iexact H2
  isplitl [H1]; · iexact H1
  isplitl [H3] <;> iassumption

theorem ghost_intro (K : Dev nD × Cel → ℕ) (c : Dev nD) :
    iprop(records m K ∗ ((bigSep Finset.univ fun k : Cel => atPos ER (cellAt c k) 0 ∅ 0) ∗ payToks c)) ⊢ Ghost m c := by
  unfold Ghost payToks
  iintro ⟨#HR, Hat, Htok⟩
  isplitr; · iexists K; iexact HR
  isplitl [Hat] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← sum_sep]; exact bigSep_mono h)

theorem regroup :
    (bigSep Finset.univ fun c : Dev nD => iprop((bigSep Finset.univ fun k => iprop(∃ κ : ℕ, cellInv ER (ringRd m) κ (cellAt c k)))
          ∗ ((bigSep Finset.univ fun k : Cel => atPos ER (cellAt c k) 0 ∅ 0) ∗ bigSep Finset.univ fun k : Cel => reached ER (cellAt c k) 0) ∗ toks c) : sProp 𝕄)
      ⊢ bigSep Finset.univ (Ghost m) := by
  rw [sum_sep, sum_sep, sum_sep, ← bigSep_univ_prod (fun ck : Dev nD × Cel => iprop(∃ κ : ℕ, cellInv ER (ringRd m) κ (cellAt ck.1 ck.2))),
    ← bigSep_univ_prod (fun ck : Dev nD × Cel => (reached ER (cellAt ck.1 ck.2) 0 : sProp 𝕄))]
  iintro ⟨HI, ⟨Hat, #HR⟩, Htok⟩
  ihave HK := (BI.bigSep_exists_pi Finset.univ (fun (ck : Dev nD × Cel) (κ : ℕ) => (cellInv ER (ringRd m) κ (cellAt ck.1 ck.2) : sProp 𝕄))) $$ HI
  icases HK with ⟨%K, #HI⟩
  ihave Htk := (toks_around (F := F)) $$ Htok
  iapply (with_persistent (R := records m K) fun c _ => ghost_intro m K c)
  isplitr
  · unfold records; isplitl; · iexact HI
    iexact HR
  · rw [sum_sep]
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (Ghost m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => congrArg (fun g : GSem nD τ sig => g.1.1) h, fun h => h ▸ rfl⟩
theorem recv_eq_iff {a b : Dev nD} {x y : Hop} : Iff (recvCell a x = recvCell b y) (a = b ∧ x = y) :=
  ⟨fun h => ⟨congrArg (fun g : GSem nD τ sig => g.1.1) h, congrArg Prod.snd (osem_injective (a₁ := (true, x)) (a₂ := (true, y)) (congrArg Prod.snd h))⟩,
    fun h => by rw [h.1, h.2]⟩
theorem recv_ne_bar (a b : Dev nD) (x : Hop) : recvCell a x ≠ barCell b := fun h =>
  nomatch (csem_injective (a₁ := some (true, x)) (a₂ := none) (congrArg Prod.snd h))

theorem owedSum_bar (d c : Dev nD) (l : List Hop) : owedSum d l (barCell c) () = 0 := by
  by_contra h
  obtain ⟨x, _, e⟩ := owedSum_pos (Nat.pos_of_ne_zero h)
  exact recv_ne_bar _ _ _ e.symm

theorem owed_bar (d c : Dev nD) : O₀ d (barCell c) () = (if d = prv c then 1 else 0) + (if d = nxt c then 1 else 0) := by
  unfold O₀ O₁
  rw [Pi.add_apply, Finsupp.add_apply, Pi.add_apply, Finsupp.add_apply, owedSum_bar, tallyAt_apply, tallyAt_apply, Nat.zero_add]
  congr 1
  · refine if_congr ?_ rfl rfl
    rw [and_iff_left rfl, bar_eq_iff]
    exact ⟨fun h => by rw [h, prv_nxt], fun h => by rw [h, nxt_prv]⟩
  · refine if_congr ?_ rfl rfl
    rw [and_iff_left rfl, bar_eq_iff]
    exact ⟨fun h => by rw [h, nxt_prv], fun h => by rw [h, prv_nxt]⟩

theorem owedSum_recv (d c : Dev nD) (x : Hop) (l : List Hop) :
    owedSum d l (recvCell c x) () = if d = src x.1 c then l.count x * N else 0 := by
  induction l with
  | nil => rw [List.count_nil, Nat.zero_mul, ite_self]; rfl
  | cons y l ih =>
    have e : Iff (recvCell c x = recvCell (tgt y.1 d) y) (d = src x.1 c ∧ y = x) := by
      rw [recv_eq_iff]
      constructor
      · rintro ⟨h1, rfl⟩; exact ⟨by rw [h1, src_tgt], rfl⟩
      · rintro ⟨h1, rfl⟩; exact ⟨by rw [h1, tgt_src], rfl⟩
    unfold owedSum
    rw [Pi.add_apply, Finsupp.add_apply, ih, tallyAt_apply, if_congr (and_iff_left rfl) rfl rfl, if_congr e rfl rfl, List.count_cons]
    by_cases h1 : d = src x.1 c
    · by_cases h2 : y = x
      · rw [if_pos h1, if_pos ⟨h1, h2⟩, if_pos h1, if_pos (by rw [h2]; exact beq_self_eq_true x), Nat.add_mul, Nat.one_mul]
      · rw [if_pos h1, if_neg (fun h => h2 h.2), if_pos h1, if_neg (fun h => h2 (beq_iff_eq.mp h)), Nat.add_zero, Nat.add_zero]
    · rw [if_neg h1, if_neg (fun h => h1 h.1), if_neg h1]

theorem count_order : ∀ x : Hop, order.count x = 1 := by decide

theorem owed_recv (d c : Dev nD) (x : Hop) : O₀ d (recvCell c x) () = if d = src x.1 c then N else 0 := by
  unfold O₀ O₁
  rw [Pi.add_apply, Finsupp.add_apply, Pi.add_apply, Finsupp.add_apply, owedSum_recv, count_order, Nat.one_mul,
    tallyAt_ne_cell (recv_ne_bar _ _ _), tallyAt_ne_cell (recv_ne_bar _ _ _), Finsupp.zero_apply, Nat.add_zero, Nat.add_zero]

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_recv (c : Dev nD) (x : Hop) :
    tallyOn (recvCell c x) (launchCredit (Pipeline.owing O₀) 0 (recvCell c x)) = (tallyAt (recvCell c x) () N : CellTallies nD τ sig Unit) := by
  unfold tallyAt; refine congrArg _ (Finsupp.ext fun u => ?_); cases u
  rw [Pipeline.launchCredit_owing, Finsupp.single_eq_same, Finset.sum_congr rfl fun d _ => owed_recv d c x,
    Finset.sum_ite_eq' Finset.univ (src x.1 c) fun _ => N, if_pos (Finset.mem_univ _)]

/-- The landings' semaphores. -/
def rsem (x : Hop) : SemLoc sig := .dma (rSem x.1 x.2)
theorem rsem_injective : Function.Injective rsem := fun x y h => congrArg Prod.snd (osem_injective (a₁ := (true, x)) (a₂ := (true, y)) h)

theorem creds (c : Dev nD) :
    (Pipeline.launchCred O₀ c : sProp 𝕄) ⊢ iprop(cred (tallyAt (barCell c) () 2) ∗ bigSep Finset.univ fun x : Hop => cred (tallyAt (recvCell c x) () N)) := by
  unfold Pipeline.launchCred
  rw [bigSep_univ_at _ (SemLoc.reg barS), launch_bar]
  refine sep_mono_right ?_
  have hs : (Finset.univ : Finset Hop).map ⟨rsem, rsem_injective⟩ ⊆ Finset.univ.erase (SemLoc.reg barS) := fun sm hsm => by
    obtain ⟨x, _, rfl⟩ := Finset.mem_map.mp hsm
    exact Finset.mem_erase.mpr ⟨(fun h => nomatch h : rsem x ≠ SemLoc.reg barS), Finset.mem_univ _⟩
  refine BIBase.Entails.trans (bigSep_subset hs) (Entails.of_eq ?_)
  rw [bigSep_map]
  exact bigSep_congr fun x _ => congrArg cred (launch_recv c x)

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ Ghost m c)
      ⊢ |={Set.univ}=> iprop(begun m c ∗ emp) := by
  iintro ⟨-, Hlev, Hcr, -, HG⟩
  ihave Hc := (creds (F := F) c) $$ Hcr
  imodintro
  unfold begun
  isplitl
  · isplitl [HG]; · iexact HG
    isplitl [Hlev]; · iexact Hlev
    iexact Hc
  · iempintro

theorem phi0_intro (c : Dev nD) :
    iprop(begun m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq, ownSems0_eq, unscopedSems0_eq]
  unfold Φ₁
  iintro ⟨HzB, Hz, Hr⟩
  isplitl [HzB]; · iexact HzB
  isplitl [Hz]; · iexact Hz
  iexists (commF m c); iexact Hr

theorem stage_ne : ∀ (w : Fin 6) (s : Fin (spec0 w).nbuf) (k : Cel), csem k ≠ .dma ((spec0 w).sem s) := by decide +kernel

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun k => stage_ne w s k) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Over any float values, from any memory with counters at zero: the four devices' kernels run to their end, and then every
    array holds what its window's blocks leave in it and every counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := Ghost m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := begun m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.RingAttn

end
-- ==== Proof.Frames.lean ====
/- The frames of the kernel, as printed and as idealized: the one run with its values dropped; and the
   contents of the result array after the run. -/
module

public import proofs.«01_k».proof.Defs
public import proofs.«01_k».proof.Proof.Launch
public import proofs.«01_k».proof.Proof.Gen.Kernel
public import Idealize.ShloMosaic.PureOps.BitExact

@[expose] public section

set_option synthInstance.maxSize 4096
set_option maxRecDepth 65536

noncomputable section

namespace Cert.RingAttn

open Cert.KernelIdeal Cert.KernelIdeal.Gen
open Idealize.ShloMosaic Idealize.ShloMosaic.TcCoe
open Idealize.SL Idealize.SL.Sem
open Idealize.ShloMosaic.Pipeline (Dat Cfg Window)

variable {F : FTy → Type} [FloatOps F] [Named F]

variable (m : (ℓ : Loc nD τ sig) → Buf (Elt F) ℓ) (ρ : Dev nD → PrngReg)

/-- The result array's block, which is the whole array, holds what the body left. -/
theorem finalA_out (c : Dev nD) : (win0_5.blk (0 : Fin 1)).view.read (Elt F) (finalA m ρ c (5 : Fin 6)) = outAt m c := by
  unfold finalA
  rw [show cfg0.N = ((0 : Fin 1) : Fin cfg0.N).val + 1 from rfl, (dats m ρ 0 c).arrAt_succ (5 : Fin 6) (0 : Fin 1)]
  rw [show (cfg0.win (5 : Fin 6)).flush (0 : Fin 1) = true from flush0_5 _, if_pos rfl]
  exact View.read_write_univ _ _

/-- The run, read at the arguments, the result and the counters. -/
theorem run_args : θ_run defs (onTc (τ := τ) (main (F := F))) ⟨m, fun _ => 0, ρ⟩ (fun r => ((∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) ∧ ∀ c : Dev nD, r.2.mem ((c.tc : Thread nD τ).loc main_v1) = finalA m ρ c (5 : Fin 6)) :=
  (θ_run defs _ _).mono (fun r h => ⟨⟨fun c =>
    ⟨(h.1 c 0).trans ((dats (F := F) m ρ 0 c).arrAt_in (0 : Fin 6) rfl _),
      (h.1 c 1).trans ((dats (F := F) m ρ 0 c).arrAt_in (1 : Fin 6) rfl _),
      (h.1 c 2).trans ((dats (F := F) m ρ 0 c).arrAt_in (2 : Fin 6) rfl _),
      (h.1 c 3).trans ((dats (F := F) m ρ 0 c).arrAt_in (3 : Fin 6) rfl _),
      (h.1 c 4).trans ((dats (F := F) m ρ 0 c).arrAt_in (4 : Fin 6) rfl _)⟩, h.2⟩, fun c => h.1 c 5⟩) (run_main m ρ)

/-- The idealized kernel's frame. -/
theorem frame_ideal : Cert.quiescent_KernelIdeal := fun m ρ _ =>
  (θ_run defs _ _).mono (fun _ h => h.1) (run_args (F := Ideal) m ρ)

/-- Over the printed words a named constant is the word that is printed. -/
@[reducible] def namedBits : Named Bits := ⟨fun _ _ φ bits => Scalar.ofBits φ bits⟩

/-- Over those words the two body tables hold the one body. -/
theorem bodies_eq : letI := namedBits; Cert.Kernel.defs₀ (F := Bits) = Cert.KernelIdeal.defs₀ (F := Bits) := by
  refine congrArg Defs.onTc (funext fun l => funext fun x => ?_)
  match l, x with
  | 0, (t, s) => rfl
  | ⟨_ + 1, h⟩, _ => exact absurd h (Nat.not_lt.2 (Nat.le_add_left _ _))

theorem tables_eq : letI := namedBits; Cert.Kernel.defs (F := Bits) = Cert.KernelIdeal.defs (F := Bits) :=
  congrArg (Pipeline.defs _) bodies_eq

/-- The printed kernel's frame: over the machine's words the idealized program is the printed one. -/
theorem frame_kernel : Cert.quiescent_Kernel := fun m ρ _ => by
  letI := namedBits
  have h := (θ_run (Cert.KernelIdeal.defs (F := Bits)) _ _).mono (fun _ h => h.1) (run_args (F := Bits) m ρ)
  rw [tables_eq]
  exact h

end Cert.RingAttn

end
-- ==== Proof.Mask.lean ====
/- Which keys a query sees, as the kernel computes it and as the reference does. -/
module

public import proofs.«01_k».proof.Proof.Body
public import Idealize.ShloMosaic.Lib.Pointwise

@[expose] public section

noncomputable section

namespace Cert.RingAttn

open Idealize.ShloMosaic Cert.KernelIdeal Cert.KernelIdeal.Gen

/-- Query `i` sees key `j`: by the blocks of 64 that they are in. -/
abbrev Seen (i j : Fin 512) : Prop := i.val / 64 = j.val / 64 ∨ j.val / 64 = 0 ∨ (i.val / 64 + j.val / 64) % 3 = 0

theorem seen_zero (i : Fin 512) : ∃ j, Seen i j := ⟨0, Or.inr (Or.inl rfl)⟩

/-- The kernel's block number of a column. -/
theorem pay7_apply (i j : Fin 512) : k0_pay7 (ix2 i j) = BitVec.ofNat 32 (j.val / 64) := by
  pointwise [k0_pay7]
  revert j
  decide +kernel

theorem pay6_apply (i j : Fin 512) : k0_pay6 (iota .tc S512x512 32 [0] iota_S512x512_d0_w32) 64#32 k0_pay3 k0_pay4 k0_pay5 (ix2 i j) = BitVec.ofNat 32 (i.val / 64) := by
  pointwise [k0_pay6, k0_pay3, k0_pay4, k0_pay5]
  revert i
  decide +kernel

theorem seen_word : ∀ a b : Fin 8, IntOp.ori (IntOp.ori (IntOp.cmpi .eq (BitVec.ofNat 32 a.val) (BitVec.ofNat 32 b.val))
      (IntOp.cmpi .eq (BitVec.ofNat 32 b.val) 0#32))
    (IntOp.cmpi .eq (IntOp.remsi .vector (IntOp.addi (BitVec.ofNat 32 a.val) (BitVec.ofNat 32 b.val)) 3#32) 0#32)
      = if a.val = b.val ∨ b.val = 0 ∨ (a.val + b.val) % 3 = 0 then 1#1 else 0#1 := by decide +kernel

/-- The mask word of the block numbers. -/
theorem seen_word' (i j : Fin 512) : IntOp.ori (IntOp.ori (IntOp.cmpi .eq (BitVec.ofNat 32 (i.val / 64)) (BitVec.ofNat 32 (j.val / 64)))
      (IntOp.cmpi .eq (BitVec.ofNat 32 (j.val / 64)) 0#32))
    (IntOp.cmpi .eq (IntOp.remsi .vector (IntOp.addi (BitVec.ofNat 32 (i.val / 64)) (BitVec.ofNat 32 (j.val / 64))) 3#32) 0#32)
      = if Seen i j then 1#1 else 0#1 :=
  seen_word ⟨i.val / 64, by omega⟩ ⟨j.val / 64, by omega⟩

/-- What the kernel adds to a score. -/
theorem bias_apply (i j : Fin 512) : biasVal (F := Ideal) (ix2 i j) = if Seen i j then (0 : EReal) else ⊥ := by
  unfold biasVal
  pointwise [k0_pay10, k0_pay8, k0_pay9]
  rw [pay6_apply, pay7_apply, seen_word']
  split
  · rfl
  · rfl

end Cert.RingAttn

end
-- ==== Proof.RefValue.lean ====
/- What the reference computes, stage by stage, each stage read at an index. -/
module

public import proofs.«01_k».proof.Proof.Mask
public import proofs.«01_k».proof.Proof.Gen.ReferenceIdeal.Run
public import Idealize.ShloMosaic.Lib.Pointwise

@[expose] public section

noncomputable section

namespace Cert.RingAttn.Ref

open Idealize.ShloMosaic Idealize.ShloMosaic.TcCoe Cert.ReferenceIdeal Cert.ReferenceIdeal.Gen

/-- The block number of a position, as the host divides. -/
def blkV : IVec S512 32 :=
  select (andi (cmpi .ne (signi (iotaInDim S512 32 0)) (broadcastInDim S512 ![] bcast_S_S512 (signi (id (constantI S_ 32 64#32)))))
      (cmpi .ne (Host.remsi (iotaInDim S512 32 0) (broadcastInDim S512 ![] bcast_S_S512 (id (constantI S_ 32 64#32)))) (broadcastInDim S512 ![] bcast_S_S512 (constantI S_ 32 0#32))))
    (subi (Host.divsi (iotaInDim S512 32 0) (broadcastInDim S512 ![] bcast_S_S512 (id (constantI S_ 32 64#32)))) (broadcastInDim S512 ![] bcast_S_S512 (constantI S_ 32 1#32)))
    (Host.divsi (iotaInDim S512 32 0) (broadcastInDim S512 ![] bcast_S_S512 (id (constantI S_ 32 64#32))))

def rowV : IVec S512x512 32 := broadcastInDim S512x512 ![0, 1] bcast_S512x1_S512x512_0_1 (broadcastInDim S512x1 ![0] bcast_S512_S512x1_0 blkV)
def colV : IVec S1x512 32 := broadcastInDim S1x512 ![1] bcast_S512_S1x512_1 blkV
def colsV : IVec S512x512 32 := broadcastInDim S512x512 ![0, 1] bcast_S1x512_S512x512_0_1 colV

/-- The divisor of the remainder, guarded against zero. -/
def threeV : IVec S_ 32 := select (cmpi .eq (id (constantI S_ 32 3#32)) (constantI S_ 32 0#32)) (constantI S_ 32 1#32) (id (constantI S_ 32 3#32))
def remV : IVec S512x512 32 := Host.remsi (addi rowV colsV) (broadcastInDim S512x512 ![] bcast_S_S512x512 threeV)
def modV : IVec S512x512 32 :=
  select (andi (cmpi .ne (cmpi .slt remV (broadcastInDim S512x512 ![] bcast_S_S512x512 (constantI S_ 32 0#32)))
        (broadcastInDim S512x512 ![] bcast_S_S512x512 (cmpi .slt threeV (constantI S_ 32 0#32))))
      (cmpi .ne remV (broadcastInDim S512x512 ![] bcast_S_S512x512 (constantI S_ 32 0#32))))
    (addi remV (broadcastInDim S512x512 ![] bcast_S_S512x512 threeV)) remV

/-- The mask. -/
def seenV : IVec S512x512 1 :=
  ori (ori (cmpi .eq rowV colsV) (broadcastInDim S512x512 ![0, 1] bcast_S1x512_S512x512_0_1 (cmpi .eq colV (broadcastInDim S1x512 ![] bcast_S_S1x512 (constantI S_ 32 0#32)))))
    (cmpi .eq modV (broadcastInDim S512x512 ![] bcast_S_S512x512 (constantI S_ 32 0#32)))

/-- The rows that see something. -/
def keepV : IVec S1x1x512x1 1 :=
  broadcastInDim S1x1x512x1 ![2] bcast_S512_S1x1x512x1_2 (Host.reduce IntOp.ori seenV (constantI S_ 1 0#1) reducesTo_S512x512_S512_d1 h_S_)

variable (x : FVec Ideal S2x512x768 .bf16) (wq : FVec Ideal S768x2048 .bf16) (k v : FVec Ideal S2x512x32x64 .bf16) (wo : FVec Ideal S2048x768 .bf16)

/-- The queries. -/
def qV : FVec Ideal S2x512x32x64 .f32 :=
  shapeCast _ (Host.dotGeneral dot_S2x512x768_S768x2048_S2x512x2048_2_0_01_1_n_n none (extf .f32 x bitsLt_bf16_f32) (extf .f32 wq bitsLt_bf16_f32)) shapeCasts_S2x512x2048_S2x512x32x64

/-- The scores, before and after the mask. -/
def scoreV : FVec Ideal S2x32x512x512 .f32 :=
  mulf (Host.dotGeneral dot_S2x512x32x64_S2x512x32x64_S2x32x512x512_3_3_1_1_02_02 none (qV x wq) (extf .f32 k bitsLt_bf16_f32))
    (broadcastInDim S2x32x512x512 ![] bcast_S_S2x32x512x512 (constant S_ .f32 0x3E000000#32))
def maskedV : FVec Ideal S2x32x512x512 .f32 :=
  select (broadcastInDim S2x32x512x512 ![0, 1, 2, 3] bcast_S1x1x512x512_S2x32x512x512_0_1_2_3 (broadcastInDim S1x1x512x512 ![2, 3] bcast_S512x512_S1x1x512x512_2_3 seenV))
    (scoreV x wq k) (broadcastInDim S2x32x512x512 ![] bcast_S_S2x32x512x512 (id (constant S_ .f32 0xFF800000#32)))

/-- The greatest score of a row, and the exponentials. -/
def maxV : FVec Ideal S2x32x512 .f32 := Host.reduce FloatOps.maximumf (maskedV x wq k) (constant S_ .f32 0xFF800000#32) reducesTo_S2x32x512x512_S2x32x512_d3 h_S_
def expV : FVec Ideal S2x32x512x512 .f32 :=
  Host.exp (subf (maskedV x wq k) (broadcastInDim S2x32x512x512 ![0, 1, 2, 3] bcast_S2x32x512x1_S2x32x512x512_0_1_2_3 (broadcastInDim S2x32x512x1 ![0, 1, 2] bcast_S2x32x512_S2x32x512x1_0_1_2 (maxV x wq k))))
def sumV : FVec Ideal S2x32x512 .f32 := Host.reduceAdd (expV x wq k) (constant S_ .f32 0x00000000#32) reducesTo_S2x32x512x512_S2x32x512_d3 h_S_

/-- The weights. -/
def denV : FVec Ideal S2x32x512x1 .f32 :=
  select (broadcastInDim S2x32x512x1 ![0, 1, 2, 3] bcast_S1x1x512x1_S2x32x512x1_0_1_2_3 keepV)
    (broadcastInDim S2x32x512x1 ![0, 1, 2] bcast_S2x32x512_S2x32x512x1_0_1_2 (sumV x wq k))
    (broadcastInDim S2x32x512x1 ![] bcast_S_S2x32x512x1 (id (constant S_ .f32 0x3F800000#32)))
def weightV : FVec Ideal S2x32x512x512 .f32 :=
  select (broadcastInDim S2x32x512x512 ![0, 1, 2, 3] bcast_S1x1x512x1_S2x32x512x512_0_1_2_3 keepV)
    (Host.divf (expV x wq k) (broadcastInDim S2x32x512x512 ![0, 1, 2, 3] bcast_S2x32x512x1_S2x32x512x512_0_1_2_3 (denV x wq k)))
    (broadcastInDim S2x32x512x512 ![] bcast_S_S2x32x512x512 (id (constant S_ .f32 0x00000000#32)))

/-- The context and the result. -/
def ctxV : FVec Ideal S2x512x2048 .f32 :=
  shapeCast _ (transpose S2x512x32x64 [0, 3, 1, 2] (Host.dotGeneral dot_S2x512x32x64_S2x32x512x512_S2x32x64x512_1_3_3_2_02_01 none (extf .f32 v bitsLt_bf16_f32) (weightV x wq k)) transposes_S2x32x64x512_S2x512x32x64_0_3_1_2) shapeCasts_S2x512x32x64_S2x512x2048
def outV : FVec Ideal S2x512x768 .f32 :=
  Host.dotGeneral dot_S2x512x2048_S2048x768_S2x512x768_2_0_01_1_n_n none (ctxV x wq k v) (extf .f32 wo bitsLt_bf16_f32)

set_option maxRecDepth 65536 in
/-- The printed reference's result is these stages'. -/
theorem res_eq (m : (ℓ : Loc nD τ sig) → Buf (Elt Ideal) ℓ) (c : Dev nD) :
    Cert.ReferenceIdeal.Value.res_main_v49 m c
      = outV (m ((c : Thread nD τ).loc main_arg0)) (m ((c : Thread nD τ).loc main_arg1)) (m ((c : Thread nD τ).loc main_arg2))
          (m ((c : Thread nD τ).loc main_arg3)) (m ((c : Thread nD τ).loc main_arg4)) := rfl

end Cert.RingAttn.Ref

end
-- ==== Proof.Softmax.lean ====
/- One row of masked softmax attention over the extended reals.

   The kernel sums the exponentials of the scores as they are, and divides the weighted values by that
   sum at the end; the reference takes the row's maximum off the scores first and divides each weight.
   With finite scores, and one of them unmasked, both are the same number, whatever the values are. -/
module

public import Idealize.ShloMosaic.PureOps.Ideal
public import Mathlib.Data.EReal.Operations
public import Mathlib.Data.EReal.Inv

@[expose] public section

noncomputable section

namespace Cert.RingAttn

open Idealize.ShloMosaic

/-- A finite extended real. -/
def IsReal (x : EReal) : Prop := ∃ r : ℝ, x = (r : EReal)

theorem IsReal.mul {x y : EReal} (hx : IsReal x) (hy : IsReal y) : IsReal (x * y) := by
  obtain ⟨r, rfl⟩ := hx; obtain ⟨t, rfl⟩ := hy
  exact ⟨r * t, (EReal.coe_mul r t).symm⟩

theorem IsReal.sum {ι : Type} (S : Finset ι) {f : ι → EReal} (h : ∀ i, IsReal (f i)) : IsReal (∑ i ∈ S, f i) := by
  choose g hg using h
  refine ⟨∑ i ∈ S, g i, ?_⟩
  rw [Finset.sum_congr rfl fun i _ => hg i]
  induction S using Finset.cons_induction with
  | empty => simp
  | cons a s ha ih => rw [Finset.sum_cons, Finset.sum_cons, ih, EReal.coe_add]

theorem coe_sum {ι : Type} (S : Finset ι) (g : ι → ℝ) : ((∑ i ∈ S, g i : ℝ) : EReal) = ∑ i ∈ S, (g i : EReal) := by
  induction S using Finset.cons_induction with
  | empty => simp
  | cons a s ha ih => rw [Finset.sum_cons, Finset.sum_cons, EReal.coe_add, ih]

/-- A nonnegative real factor moves into a sum of extended reals. -/
theorem sum_mul_real {ι : Type} (S : Finset ι) (f : ι → EReal) {c : ℝ} (hc : 0 ≤ c) :
    (∑ i ∈ S, f i) * (c : EReal) = ∑ i ∈ S, f i * (c : EReal) := by
  induction S using Finset.cons_induction with
  | empty => simp
  | cons a s ha ih =>
    rw [Finset.sum_cons, Finset.sum_cons, ← ih]
    exact EReal.right_distrib_of_nonneg_of_ne_top (EReal.coe_nonneg.mpr hc) (EReal.coe_ne_top c) _ _

theorem div_real (a : ℝ) {b : ℝ} (hb : b ≠ 0) : Ideal.div (a : EReal) (b : EReal) = ((a / b : ℝ) : EReal) := by
  unfold Ideal.div
  rw [if_neg (by exact_mod_cast hb), ← EReal.coe_inv, ← EReal.coe_mul, div_eq_mul_inv]

variable {n : ℕ}

/-- The exponential of a score, nothing where masked. -/
def wt (M : Fin n → Prop) [DecidablePred M] (t : Fin n → ℝ) (j : Fin n) : ℝ := if M j then Real.exp (t j) else 0

variable (M : Fin n → Prop) [DecidablePred M] (s : Fin n → EReal) (t : Fin n → ℝ) (hs : ∀ j, s j = (t j : EReal))

theorem wt_nonneg (j : Fin n) : 0 ≤ wt M t j := by
  unfold wt; split
  · exact (Real.exp_pos _).le
  · exact le_refl _

theorem wt_sum_pos (hM : ∃ j, M j) : 0 < ∑ j, wt M t j := by
  obtain ⟨j₀, h₀⟩ := hM
  refine Finset.sum_pos' (fun j _ => wt_nonneg M t j) ⟨j₀, Finset.mem_univ _, ?_⟩
  unfold wt; rw [if_pos h₀]; exact Real.exp_pos _

include hs in
/-- With the mask added. -/
theorem exp_added (j : Fin n) : Ideal.exp (s j + if M j then (0 : EReal) else ⊥) = (wt M t j : EReal) := by
  rw [hs j]; unfold wt
  split
  · rw [add_zero]; rfl
  · rw [EReal.add_bot]; rfl

include hs in
/-- With the mask selected, and the greatest of the row taken off. -/
theorem exp_shifted (μ : ℝ) (j : Fin n) :
    Ideal.exp ((if M j then s j else ⊥) - (μ : EReal)) = ((wt M t j * Real.exp (-μ) : ℝ) : EReal) := by
  rw [hs j]; unfold wt
  split
  · rw [← EReal.coe_sub, sub_eq_add_neg, ← Real.exp_add]; rfl
  · rw [zero_mul, EReal.bot_sub]; rfl

include hs in
/-- The greatest of a row's masked scores is finite. -/
theorem max_real (hM : ∃ j, M j) : IsReal ((Finset.univ : Finset (Fin n)).fold max ⊥ fun j => if M j then s j else ⊥) := by
  have key : ∀ S : Finset (Fin n), (S.fold max ⊥ fun j => if M j then s j else ⊥) ≠ ⊤ := by
    intro S
    induction S using Finset.cons_induction with
    | empty => simp
    | cons a S ha ih =>
      rw [Finset.fold_cons]
      refine ne_of_lt (max_lt ?_ (lt_top_iff_ne_top.mpr ih))
      split
      · rw [hs]; exact EReal.coe_lt_top _
      · exact bot_lt_top
  obtain ⟨j₀, h₀⟩ := hM
  have low : (t j₀ : EReal) ≤ (Finset.univ : Finset (Fin n)).fold max ⊥ fun j => if M j then s j else ⊥ := by
    rw [Finset.le_fold_max]
    exact Or.inr ⟨j₀, Finset.mem_univ _, by rw [if_pos h₀, hs]⟩
  refine ⟨_, (EReal.coe_toReal (key _) ?_).symm⟩
  intro h
  rw [h] at low
  exact absurd (lt_of_lt_of_le (EReal.bot_lt_coe (t j₀)) low) (lt_irrefl _)

include hs in
/-- The two ways to attend agree. -/
theorem attend_eq (hM : ∃ j, M j) (v : Fin n → EReal) :
    (∑ j, Ideal.exp (s j + if M j then (0 : EReal) else ⊥) * v j)
        * Ideal.div 1 (∑ j, Ideal.exp (s j + if M j then (0 : EReal) else ⊥))
      = ∑ j, v j * Ideal.div (Ideal.exp ((if M j then s j else ⊥)
            - (Finset.univ : Finset (Fin n)).fold max ⊥ fun j => if M j then s j else ⊥))
          (∑ j, Ideal.exp ((if M j then s j else ⊥)
            - (Finset.univ : Finset (Fin n)).fold max ⊥ fun j => if M j then s j else ⊥)) := by
  obtain ⟨μ, hμ⟩ := max_real M s t hs hM
  have hpos := wt_sum_pos M t hM
  have hμ0 : Real.exp (-μ) ≠ 0 := (Real.exp_pos _).ne'
  rw [hμ]
  simp only [exp_added M s t hs, exp_shifted M s t hs μ]
  rw [← coe_sum, ← coe_sum, ← Finset.sum_mul, ← EReal.coe_one, div_real 1 hpos.ne',
    sum_mul_real _ _ (by positivity)]
  refine Finset.sum_congr rfl fun j _ => ?_
  rw [div_real _ (mul_ne_zero hpos.ne' hμ0), mul_div_mul_right _ _ hμ0, mul_comm ((wt M t j : ℝ) : EReal), mul_assoc,
    ← EReal.coe_mul, mul_one_div]

end Cert.RingAttn

end
-- ==== Proof.RefRead.lean ====
/- The reference's stages read at an index. -/
module

public import proofs.«01_k».proof.Proof.RefValue
public import proofs.«01_k».proof.Proof.Softmax
public import Idealize.ShloMosaic.Lib.Pointwise

@[expose] public section

noncomputable section

namespace Cert.RingAttn.Ref

open Idealize.ShloMosaic Idealize.ShloMosaic.TcCoe Cert.ReferenceIdeal Cert.ReferenceIdeal.Gen

theorem blk_apply (i : Fin 512) : blkV (ix1 i) = BitVec.ofNat 32 (i.val / 64) := by
  pointwise [blkV]
  revert i
  decide +kernel

theorem row_apply (i j : Fin 512) : rowV (ix2 i j) = BitVec.ofNat 32 (i.val / 64) := by
  pointwise [rowV]
  exact blk_apply i

theorem col_apply (u : Fin 1) (j : Fin 512) : colV (ix2 u j) = BitVec.ofNat 32 (j.val / 64) := by
  pointwise [colV]
  exact blk_apply j

theorem cols_apply (i j : Fin 512) : colsV (ix2 i j) = BitVec.ofNat 32 (j.val / 64) := by
  pointwise [colsV]
  exact col_apply 0 j

theorem seen_word : ∀ a b : Fin 8, IntOp.ori (IntOp.ori (IntOp.cmpi .eq (BitVec.ofNat 32 a.val) (BitVec.ofNat 32 b.val))
      (IntOp.cmpi .eq (BitVec.ofNat 32 b.val) 0#32))
    (IntOp.cmpi .eq
      (Scalar.select
        (IntOp.andi (IntOp.cmpi .ne (IntOp.cmpi .slt (IntOp.remsi .host (IntOp.addi (BitVec.ofNat 32 a.val) (BitVec.ofNat 32 b.val)) 3#32) 0#32) 0#1)
          (IntOp.cmpi .ne (IntOp.remsi .host (IntOp.addi (BitVec.ofNat 32 a.val) (BitVec.ofNat 32 b.val)) 3#32) 0#32))
        (IntOp.addi (IntOp.remsi .host (IntOp.addi (BitVec.ofNat 32 a.val) (BitVec.ofNat 32 b.val)) 3#32) 3#32)
        (IntOp.remsi .host (IntOp.addi (BitVec.ofNat 32 a.val) (BitVec.ofNat 32 b.val)) 3#32)) 0#32)
      = if a.val = b.val ∨ b.val = 0 ∨ (a.val + b.val) % 3 = 0 then 1#1 else 0#1 := by decide +kernel

theorem three_apply : threeV ix0 = 3#32 := by decide +kernel

theorem seen_apply (i j : Fin 512) : seenV (ix2 i j) = if Seen i j then 1#1 else 0#1 := by
  pointwise [seenV, modV, remV, three_apply, row_apply, col_apply, cols_apply]
  exact seen_word ⟨i.val / 64, by omega⟩ ⟨j.val / 64, by omega⟩

/-- A row of the mask sees something. -/
theorem fold_ori {n : ℕ} (f : Fin n → BitVec 1) {j : Fin n} (h : f j = 1#1) (S : Finset (Fin n)) (hj : j ∈ S) :
    S.fold IntOp.ori 0#1 f = 1#1 := by
  have o1 : ∀ y : BitVec 1, IntOp.ori 1#1 y = 1#1 := by decide
  have o2 : ∀ y : BitVec 1, IntOp.ori y 1#1 = 1#1 := by decide
  induction S using Finset.cons_induction with
  | empty => exact absurd hj (Finset.notMem_empty _)
  | cons a S ha ih =>
    rw [Finset.fold_cons]
    rcases Finset.mem_cons.mp hj with rfl | hS
    · rw [h]; exact o1 _
    · rw [ih hS]; exact o2 _

theorem keep_apply (u u' u'' : Fin 1) (i : Fin 512) : keepV (ix4 u u' i u'') = 1#1 := by
  pointwise [keepV]
  exact fold_ori _ (j := 0) (by rw [seen_apply]; exact if_pos (Or.inr (Or.inl rfl))) _ (Finset.mem_univ _)

/-! ## The literals -/

theorem eighth : Ideal.ofBits .f32 0x3E000000#32 = (((1 : ℝ) / 8 : ℝ) : EReal) := by
  simp [Ideal.ofBits, Ideal.ieee, -EReal.coe_mul]
  norm_num

theorem lowest : Ideal.ofBits .f32 0xFF800000#32 = (⊥ : EReal) := by
  simp [Ideal.ofBits, Ideal.ieee]

/-! ## Attention -/

variable (x : FVec Ideal S2x512x768 .bf16) (wq : FVec Ideal S768x2048 .bf16) (k v : FVec Ideal S2x512x32x64 .bf16) (wo : FVec Ideal S2048x768 .bf16)

/-- The score of query `i` and key `j`. -/
def score (b : Fin 2) (h : Fin 32) (i j : Fin 512) : EReal :=
  (∑ d : Fin 64, (∑ y : Fin 768, x (ix3 b i y) * wq (ix2 y ⟨h.val * 64 + d.val, by omega⟩)) * k (ix4 b j h d)) * (((1 : ℝ) / 8 : ℝ) : EReal)

/-- Head `h`'s context of query `i`. -/
def context (b : Fin 2) (h : Fin 32) (i : Fin 512) (d : Fin 64) : EReal :=
  ∑ j : Fin 512, v (ix4 b j h d) * Ideal.div (Ideal.exp ((if Seen i j then score x wq k b h i j else ⊥)
      - (Finset.univ : Finset (Fin 512)).fold max ⊥ fun j => if Seen i j then score x wq k b h i j else ⊥))
    (∑ j, Ideal.exp ((if Seen i j then score x wq k b h i j else ⊥)
      - (Finset.univ : Finset (Fin 512)).fold max ⊥ fun j => if Seen i j then score x wq k b h i j else ⊥))

theorem q_apply (b : Fin 2) (i : Fin 512) (h : Fin 32) (d : Fin 64) :
    qV x wq (ix4 b i h d) = ∑ y : Fin 768, x (ix3 b i y) * wq (ix2 y ⟨h.val * 64 + d.val, by omega⟩) := by
  pointwise [qV]

theorem score_apply (b : Fin 2) (h : Fin 32) (i j : Fin 512) : scoreV x wq k (ix4 b h i j) = score x wq k b h i j := by
  pointwise [scoreV]
  unfold score
  rw [eighth]
  simp only [q_apply]

theorem masked_apply (b : Fin 2) (h : Fin 32) (i j : Fin 512) :
    maskedV x wq k (ix4 b h i j) = if Seen i j then score x wq k b h i j else ⊥ := by
  pointwise [maskedV]
  rw [seen_apply, score_apply]
  split
  · rfl
  · exact lowest

theorem max_apply (b : Fin 2) (h : Fin 32) (i : Fin 512) :
    maxV x wq k (ix3 b h i) = (Finset.univ : Finset (Fin 512)).fold max ⊥ fun j => if Seen i j then score x wq k b h i j else ⊥ := by
  pointwise [maxV]
  simp only [masked_apply, lowest]

theorem exp_apply (b : Fin 2) (h : Fin 32) (i j : Fin 512) :
    expV x wq k (ix4 b h i j) = Ideal.exp ((if Seen i j then score x wq k b h i j else ⊥)
      - (Finset.univ : Finset (Fin 512)).fold max ⊥ fun j => if Seen i j then score x wq k b h i j else ⊥) := by
  pointwise [expV]
  rw [masked_apply, max_apply]

theorem sum_apply (b : Fin 2) (h : Fin 32) (i : Fin 512) :
    sumV x wq k (ix3 b h i) = ∑ j : Fin 512, Ideal.exp ((if Seen i j then score x wq k b h i j else ⊥)
      - (Finset.univ : Finset (Fin 512)).fold max ⊥ fun j => if Seen i j then score x wq k b h i j else ⊥) := by
  pointwise [sumV]
  simp only [exp_apply]

theorem weight_apply (b : Fin 2) (h : Fin 32) (i j : Fin 512) :
    weightV x wq k (ix4 b h i j) = Ideal.div (expV x wq k (ix4 b h i j)) (sumV x wq k (ix3 b h i)) := by
  pointwise [weightV, denV]
  rw [keep_apply]; rfl

theorem ctx_apply (b : Fin 2) (i : Fin 512) (n : Fin 2048) :
    ctxV x wq k v (ix3 b i n) = context x wq k v b ⟨n.val / 64, by omega⟩ i ⟨n.val % 64, by omega⟩ := by
  pointwise [ctxV]
  unfold context
  simp only [weight_apply, exp_apply, sum_apply]

/-- The reference's result at an index. -/
theorem out_apply (b : Fin 2) (i : Fin 512) (n : Fin 768) :
    outV x wq k v wo (ix3 b i n) = ∑ l : Fin 2048, context x wq k v b ⟨l.val / 64, by omega⟩ i ⟨l.val % 64, by omega⟩ * wo (ix2 l n) := by
  pointwise [outV]
  simp only [ctx_apply]

end Cert.RingAttn.Ref

end
-- ==== Proof.KernRead.lean ====
/- The kernel's values read at an index. -/
module

public import proofs.«01_k».proof.Proof.Contents
public import proofs.«01_k».proof.Proof.RefRead

@[expose] public section

noncomputable section

namespace Cert.RingAttn

open Idealize.ShloMosaic Idealize.ShloMosaic.TcCoe Cert.KernelIdeal Cert.KernelIdeal.Gen

theorem off1_val : ∀ c : Dev nD, k0_off1 c = ![0, 512 * c.val] := by decide +kernel

/-- The queries. -/
theorem pay2_apply (v13 : Vec Ideal S2x512x768 .bf16) (v18 : Vec Ideal S768x512 .bf16) (i : Fin 1024) (n : Fin 512) :
    k0_pay2 v13 v18 (ix2 i n)
      = (∑ y : Fin 768, v13 (ix3 ⟨i.val / 512, by omega⟩ ⟨i.val % 512, by omega⟩ y) * v18 (ix2 y n)) * (((1 : ℝ) / 8 : ℝ) : EReal) := by
  pointwise [k0_pay2]
  rw [Ref.eighth]

/-- One head's context, by its own scores. -/
theorem head_apply (r i : Fin 4) (q : FVec Ideal S1024x512 .bf16) (kk vv : Vec Ideal S1x512x1x64 .bf16) (u u' : Fin 1) (row : Fin 512) (d : Fin 64)
    (s : Fin 512 → EReal)
    (hs : ∀ j, s j = ∑ e : Fin 64, q (ix2 ⟨512 * rb r + row.val, by unfold rb; omega⟩ ⟨64 * rhead r i + e.val, by unfold rhead; omega⟩) * kk (ix4 0 j 0 e)) :
    headVal r i q biasVal kk vv (ix4 u u' row d)
      = (∑ j, Ideal.exp (s j + if Seen row j then (0 : EReal) else ⊥) * vv (ix4 0 j 0 d))
          * Ideal.div 1 (∑ j, Ideal.exp (s j + if Seen row j then (0 : EReal) else ⊥)) := by
  pointwise [headVal]
  simp only [← hs, bias_apply]

theorem prod_apply (a : Vec Ideal S1x1x512x256 .bf16) (w : Vec Ideal S256x768 .bf16) (i : Fin 512) (n : Fin 768) :
    prodVal a w (ix2 i n) = ∑ l : Fin 256, a (ix4 0 0 i l) * w (ix2 l n) := by
  pointwise [prodVal]

theorem outVal_apply (a : FVec Ideal S512x768 .f32) (u : Fin 1) (i : Fin 512) (n : Fin 768) : outVal a (ix3 u i n) = a (ix2 i n) := by
  pointwise [outVal]

variable (m : (ℓ : Loc nD τ sig) → Buf (Elt Ideal) ℓ)

/-! ## What is staged -/

theorem xS_eq (c : Dev nD) (i : S2x512x768.Idx) : xS m c i = m ((c : Thread nD τ).loc main_arg0) i := by
  unfold xS
  rw [View.read_apply]
  refine congrArg (m ((c : Thread nD τ).loc main_arg0)) (funext fun a => Fin.ext ?_)
  fin_cases a
  · change 0 + 1 * (i (0 : Fin 3)).val = (i (0 : Fin 3)).val; omega
  · change 0 + 1 * (i (1 : Fin 3)).val = (i (1 : Fin 3)).val; omega
  · change 0 + 1 * (i (2 : Fin 3)).val = (i (2 : Fin 3)).val; omega

theorem wqS_eq (c : Dev nD) (i : S768x2048.Idx) : wqS m c i = m ((c : Thread nD τ).loc main_arg1) i := by
  unfold wqS
  rw [View.read_apply]
  refine congrArg (m ((c : Thread nD τ).loc main_arg1)) (funext fun a => Fin.ext ?_)
  fin_cases a
  · change 0 + 1 * (i (0 : Fin 2)).val = (i (0 : Fin 2)).val; omega
  · change 0 + 1 * (i (1 : Fin 2)).val = (i (1 : Fin 2)).val; omega

theorem kS_eq (c : Dev nD) (i : S2x512x8x64.Idx) : kS m c i = m ((c : Thread nD τ).loc main_arg2) i := by
  unfold kS
  rw [View.read_apply]
  refine congrArg (m ((c : Thread nD τ).loc main_arg2)) (funext fun a => Fin.ext ?_)
  fin_cases a
  · change 0 + 1 * (i (0 : Fin 4)).val = (i (0 : Fin 4)).val; omega
  · change 0 + 1 * (i (1 : Fin 4)).val = (i (1 : Fin 4)).val; omega
  · change 0 + 1 * (i (2 : Fin 4)).val = (i (2 : Fin 4)).val; omega
  · change 0 + 1 * (i (3 : Fin 4)).val = (i (3 : Fin 4)).val; omega

theorem vS_eq (c : Dev nD) (i : S2x512x8x64.Idx) : vS m c i = m ((c : Thread nD τ).loc main_arg3) i := by
  unfold vS
  rw [View.read_apply]
  refine congrArg (m ((c : Thread nD τ).loc main_arg3)) (funext fun a => Fin.ext ?_)
  fin_cases a
  · change 0 + 1 * (i (0 : Fin 4)).val = (i (0 : Fin 4)).val; omega
  · change 0 + 1 * (i (1 : Fin 4)).val = (i (1 : Fin 4)).val; omega
  · change 0 + 1 * (i (2 : Fin 4)).val = (i (2 : Fin 4)).val; omega
  · change 0 + 1 * (i (3 : Fin 4)).val = (i (3 : Fin 4)).val; omega

theorem woS_eq (c : Dev nD) (i : S2048x768.Idx) : woS m c i = m ((c : Thread nD τ).loc main_arg4) i := by
  unfold woS
  rw [View.read_apply]
  refine congrArg (m ((c : Thread nD τ).loc main_arg4)) (funext fun a => Fin.ext ?_)
  fin_cases a
  · change 0 + 1 * (i (0 : Fin 2)).val = (i (0 : Fin 2)).val; omega
  · change 0 + 1 * (i (1 : Fin 2)).val = (i (1 : Fin 2)).val; omega

theorem kH_apply (c : Dev nD) (r i : Fin 4) (u u' : Fin 1) (j : Fin 512) (d : Fin 64) :
    kH m c r i (ix4 u j u' d) = kS m c (ix4 (⟨rb r, by unfold rb; omega⟩ : Fin 2) j (⟨rhead r i, by unfold rhead; omega⟩ : Fin 8) d) := by
  unfold kH
  refine congrArg (kS m c) (funext fun a => Fin.ext ?_)
  fin_cases a
  · change rb r + 1 * u.val = rb r; omega
  · change 0 + 1 * j.val = j.val; omega
  · change rhead r i + 1 * u'.val = rhead r i; omega
  · change 0 + 1 * d.val = d.val; omega

theorem vH_apply (c : Dev nD) (r i : Fin 4) (u u' : Fin 1) (j : Fin 512) (d : Fin 64) :
    vH m c r i (ix4 u j u' d) = vS m c (ix4 (⟨rb r, by unfold rb; omega⟩ : Fin 2) j (⟨rhead r i, by unfold rhead; omega⟩ : Fin 8) d) := by
  unfold vH
  refine congrArg (vS m c) (funext fun a => Fin.ext ?_)
  fin_cases a
  · change rb r + 1 * u.val = rb r; omega
  · change 0 + 1 * j.val = j.val; omega
  · change rhead r i + 1 * u'.val = rhead r i; omega
  · change 0 + 1 * d.val = d.val; omega

theorem slotV_apply (c : Dev nD) (r s : Fin 4) (u u' : Fin 1) (i : Fin 512) (l : Fin 256) :
    slotV m c r s (ix4 u u' i l) = ctxAt m (org r s c) r i l := by
  have e : slotV m c r s (ix4 u u' i l) = commF m c (ix4 r s i l) := by
    unfold slotV
    refine congrArg (commF m c) (funext fun a => Fin.ext ?_)
    fin_cases a
    · change r.val + 1 * u.val = r.val; omega
    · change s.val + 1 * u'.val = s.val; omega
    · change 0 + 1 * i.val = i.val; omega
    · change 0 + 1 * l.val = l.val; omega
  exact e

theorem woV_apply (c : Dev nD) (off : Fin 2 → ℕ) (inb : ∀ a, off a + S256x768.size a ≤ S2048x768.size a) (b : ℕ) (hb : off = ![b, 0])
    (l : Fin 256) (n : Fin 768) (hl : b + l.val < 2048) : woV m c off inb (ix2 l n) = woS m c (ix2 ⟨b + l.val, hl⟩ n) := by
  subst hb
  unfold woV
  refine congrArg (woS m c) (funext fun a => Fin.ext ?_)
  fin_cases a
  · change b + 1 * l.val = b + l.val; omega
  · change 0 + 1 * n.val = n.val; omega

theorem wqV_apply (c : Dev nD) (off : Fin 2 → ℕ) (inb : ∀ a, off a + S768x512.size a ≤ S768x2048.size a) (b : ℕ) (hb : off = ![0, b])
    (y : Fin 768) (n : Fin 512) (hl : b + n.val < 2048) :
    mWq.view.readAt (Elt Ideal) (Rect.unit (s := S768x2048) off S768x512.size inb).toLoadRect (wqS m c) (ix2 y n) = wqS m c (ix2 y ⟨b + n.val, hl⟩) := by
  subst hb
  refine congrArg (wqS m c) (funext fun a => Fin.ext ?_)
  fin_cases a
  · change 0 + 1 * y.val = y.val; omega
  · change b + 1 * n.val = b + n.val; omega

theorem xV_apply (c : Dev nD) (i : S2x512x768.Idx) :
    mX.view.readAt (Elt Ideal) (Rect.unit (s := S2x512x768) ![0, 0, 0] S2x512x768.size inb_S2x512x768_S2x512x768_0_0_0).toLoadRect (xS m c) i = xS m c i := by
  refine congrArg (xS m c) (funext fun a => Fin.ext ?_)
  fin_cases a
  · change 0 + 1 * (i (0 : Fin 3)).val = (i (0 : Fin 3)).val; omega
  · change 0 + 1 * (i (1 : Fin 3)).val = (i (1 : Fin 3)).val; omega
  · change 0 + 1 * (i (2 : Fin 3)).val = (i (2 : Fin 3)).val; omega

/-- The queries of a device. -/
theorem qV_apply {X : FVec Ideal S2x512x768 .bf16} {Wq : FVec Ideal S768x2048 .bf16} (c : Dev nD)
    (ex : ∀ i, xS m c i = X i) (ew : ∀ i, wqS m c i = Wq i) (b : Fin 2) (row n : Fin 512) (hi : 512 * b.val + row.val < 1024) :
    qV m c (ix2 ⟨512 * b.val + row.val, hi⟩ n)
      = (∑ y : Fin 768, X (ix3 b row y) * Wq (ix2 y ⟨512 * c.val + n.val, by have : c.val < 4 := c.isLt; omega⟩)) * (((1 : ℝ) / 8 : ℝ) : EReal) := by
  have hc : c.val < 4 := c.isLt
  unfold qV
  rw [pay2_apply]
  refine congrArg (· * _) (Finset.sum_congr rfl fun y _ => ?_)
  rw [xV_apply, wqV_apply m c _ _ _ (off1_val c) y n (by omega), ex, ew]
  have e1 : (⟨(512 * b.val + row.val) / 512, by omega⟩ : Fin 2) = b := Fin.ext (by change (512 * b.val + row.val) / 512 = b.val; omega)
  have e2 : (⟨(512 * b.val + row.val) % 512, by omega⟩ : Fin 512) = row := Fin.ext (by change (512 * b.val + row.val) % 512 = row.val; omega)
  rw [e1, e2]

/-! ## The contexts -/

variable {X : FVec Ideal S2x512x768 .bf16} {Wq : FVec Ideal S768x2048 .bf16} {K V : FVec Ideal Cert.ReferenceIdeal.S2x512x32x64 .bf16}
  {Wo : FVec Ideal S2048x768 .bf16}

theorem score_real (hX : ∀ i, IsReal (X i)) (hWq : ∀ i, IsReal (Wq i)) (hK : ∀ i, IsReal (K i)) (b : Fin 2) (h : Fin 32) (i j : Fin 512) :
    IsReal (Ref.score X Wq K b h i j) :=
  (IsReal.sum _ fun d => (IsReal.sum _ fun y => (hX _).mul (hWq _)).mul (hK _)).mul ⟨_, rfl⟩

theorem ixH_eq (row : Fin 512) (d : Fin 64) : ixH row d = ix4 0 0 row d := by
  funext a
  fin_cases a <;> rfl

theorem ctxAt_eq (hX : ∀ i, IsReal (X i)) (hWq : ∀ i, IsReal (Wq i)) (hK : ∀ i, IsReal (K i))
    (c : Dev nD) (ex : ∀ i, xS m c i = X i) (ew : ∀ i, wqS m c i = Wq i)
    (ek : ∀ (b : Fin 2) (j : Fin 512) (h : Fin 8) (d : Fin 64) (hh : 8 * c.val + h.val < 32), kS m c (ix4 b j h d) = K (ix4 b j ⟨8 * c.val + h.val, hh⟩ d))
    (ev : ∀ (b : Fin 2) (j : Fin 512) (h : Fin 8) (d : Fin 64) (hh : 8 * c.val + h.val < 32), vS m c (ix4 b j h d) = V (ix4 b j ⟨8 * c.val + h.val, hh⟩ d))
    (r : Fin 4) (row : Fin 512) (l : Fin 256) (hb : r.val / 2 < 2) (hh : 8 * c.val + 4 * (r.val % 2) + l.val / 64 < 32) :
    ctxAt m c r row l = Ref.context X Wq K V ⟨r.val / 2, hb⟩ ⟨8 * c.val + 4 * (r.val % 2) + l.val / 64, hh⟩ row ⟨l.val % 64, by omega⟩ := by
  set h : Fin 32 := ⟨8 * c.val + 4 * (r.val % 2) + l.val / 64, hh⟩ with hdef
  set b : Fin 2 := ⟨r.val / 2, hb⟩ with bdef
  set i : Fin 4 := ⟨l.val / 64, by omega⟩ with idef
  have hH : ∀ g : 8 * c.val + rhead r i < 32, (⟨8 * c.val + rhead r i, g⟩ : Fin 32) = h := fun g =>
    Fin.ext (by change 8 * c.val + (4 * (r.val % 2) + l.val / 64) = 8 * c.val + 4 * (r.val % 2) + l.val / 64; omega)
  have g : 8 * c.val + rhead r i < 32 := by change 8 * c.val + (4 * (r.val % 2) + l.val / 64) < 32; omega
  unfold ctxAt ctxH
  rw [ixH_eq]
  choose t ht using score_real hX hWq hK b h row
  have hs : ∀ j : Fin 512, Ref.score X Wq K b h row j
      = ∑ e : Fin 64, qV m c (ix2 ⟨512 * rb r + row.val, by unfold rb; omega⟩ ⟨64 * rhead r i + e.val, by unfold rhead; omega⟩) * kH m c r i (ix4 0 j 0 e) := by
    intro j
    unfold Ref.score
    rw [sum_mul_real _ _ (by norm_num)]
    refine Finset.sum_congr rfl fun e _ => ?_
    rw [qV_apply m c ex ew b row, kH_apply, ek _ _ _ _ g, hH g, mul_right_comm]
    refine congrArg (· * _) (congrArg (· * _) (Finset.sum_congr rfl fun y _ => ?_))
    refine congrArg (fun z => X (ix3 b row y) * Wq (ix2 y z)) (Fin.ext ?_)
    change (8 * c.val + 4 * (r.val % 2) + l.val / 64) * 64 + e.val = 512 * c.val + (64 * (4 * (r.val % 2) + l.val / 64) + e.val)
    omega
  rw [head_apply r i _ _ _ 0 0 row _ _ hs, attend_eq (fun j => Seen row j) _ t ht (seen_zero row)]
  unfold Ref.context
  refine Finset.sum_congr rfl fun j _ => ?_
  rw [vH_apply, ev _ _ _ _ g, hH g]

/-! ## The products -/

/-- What the four heads of one half of one device add to the result. -/
def part (X : FVec Ideal S2x512x768 .bf16) (Wq : FVec Ideal S768x2048 .bf16) (K V : FVec Ideal Cert.ReferenceIdeal.S2x512x32x64 .bf16)
    (Wo : FVec Ideal S2048x768 .bf16) (b : Fin 2) (i : Fin 512) (n : Fin 768) (c : Fin 4) (h : Fin 2) : EReal :=
  ∑ l : Fin 256, Ref.context X Wq K V b ⟨8 * c.val + 4 * h.val + l.val / 64, by omega⟩ i ⟨l.val % 64, by omega⟩
    * Wo (ix2 ⟨512 * c.val + 256 * h.val + l.val, by omega⟩ n)

/-- All the parts make the reference's result. -/
theorem sum_parts (b : Fin 2) (i : Fin 512) (n : Fin 768) :
    Ref.outV X Wq K V Wo (ix3 b i n) = ∑ c : Fin 4, ∑ h : Fin 2, part X Wq K V Wo b i n c h := by
  rw [Ref.out_apply]
  have e : ∀ f : Fin 2048 → EReal, ∑ l, f l = ∑ c : Fin 4, ∑ h : Fin 2, ∑ l : Fin 256, f ⟨512 * c.val + 256 * h.val + l.val, by omega⟩ := by
    intro f
    rw [← Fintype.sum_prod_type', ← Fintype.sum_prod_type']
    refine (Fintype.sum_equiv
      (⟨fun p => ⟨512 * p.1.1.val + 256 * p.1.2.val + p.2.val, by omega⟩,
        fun l => ((⟨l.val / 512, by omega⟩, ⟨l.val / 256 % 2, by omega⟩), ⟨l.val % 256, by omega⟩),
        fun p => ?_, fun l => ?_⟩ : (Fin 4 × Fin 2) × Fin 256 ≃ Fin 2048) _ _ fun p => rfl).symm
    · obtain ⟨⟨c, h⟩, l⟩ := p
      refine Prod.ext (Prod.ext (Fin.ext ?_) (Fin.ext ?_)) (Fin.ext ?_)
      · change (512 * c.val + 256 * h.val + l.val) / 512 = c.val; omega
      · change (512 * c.val + 256 * h.val + l.val) / 256 % 2 = h.val; omega
      · change (512 * c.val + 256 * h.val + l.val) % 256 = l.val; omega
    · refine Fin.ext ?_
      change 512 * (l.val / 512) + 256 * (l.val / 256 % 2) + l.val % 256 = l.val; omega
  rw [e]
  refine Finset.sum_congr rfl fun c _ => Finset.sum_congr rfl fun h _ => Finset.sum_congr rfl fun l _ => ?_
  refine congrArg (· * _) ?_
  refine congr_arg₂ (fun y z => Ref.context X Wq K V b y i z) (Fin.ext ?_) (Fin.ext ?_)
  · change (512 * c.val + 256 * h.val + l.val) / 64 = 8 * c.val + 4 * h.val + l.val / 64; omega
  · change (512 * c.val + 256 * h.val + l.val) % 64 = l.val % 64; omega

theorem off2_0 : ∀ d : Dev nD, k0_off2 d 0#32 = ![512 * d.val + 256 * 0, 0] := by decide +kernel
theorem off2_1 : ∀ d : Dev nD, k0_off2 d 256#32 = ![512 * d.val + 256 * 1, 0] := by decide +kernel
theorem off3_0 : ∀ d : Dev nD, k0_off3 d 0#32 = ![512 * ((d.val + 3) % 4) + 256 * 0, 0] := by decide +kernel
theorem off3_1 : ∀ d : Dev nD, k0_off3 d 1#32 = ![512 * ((d.val + 2) % 4) + 256 * 0, 0] := by decide +kernel
theorem off3_2 : ∀ d : Dev nD, k0_off3 d 2#32 = ![512 * ((d.val + 1) % 4) + 256 * 0, 0] := by decide +kernel
theorem off4_0 : ∀ d : Dev nD, k0_off4 d 0#32 = ![512 * ((d.val + 1) % 4) + 256 * 1, 0] := by decide +kernel
theorem off4_1 : ∀ d : Dev nD, k0_off4 d 1#32 = ![512 * ((d.val + 2) % 4) + 256 * 1, 0] := by decide +kernel
theorem off4_2 : ∀ d : Dev nD, k0_off4 d 2#32 = ![512 * ((d.val + 3) % 4) + 256 * 1, 0] := by decide +kernel

/-- The device `k` hops on. -/
def hop (d : Dev nD) (k : ℕ) : Fin 4 := ⟨(d.val + k) % 4, Nat.mod_lt _ (by decide)⟩

theorem org_even : ∀ (r : Fin 4) (d : Dev nD), r.val % 2 = 0 → org r 0 d = hop d 0 ∧ org r 1 d = hop d 3 ∧ org r 2 d = hop d 2 ∧ org r 3 d = hop d 1 := by decide
theorem org_odd : ∀ (r : Fin 4) (d : Dev nD), r.val % 2 = 1 → org r 0 d = hop d 0 ∧ org r 1 d = hop d 1 ∧ org r 2 d = hop d 2 ∧ org r 3 d = hop d 3 := by decide

theorem ixO_eq (row : Fin 512) (n : Fin 768) : ixO row n = ix3 0 row n := by
  funext a
  fin_cases a <;> rfl

/-- The memory of the run holds the reference's arrays, each device its share of the keys and values. -/
structure Holds (X : FVec Ideal S2x512x768 .bf16) (Wq : FVec Ideal S768x2048 .bf16) (K V : FVec Ideal Cert.ReferenceIdeal.S2x512x32x64 .bf16)
    (Wo : FVec Ideal S2048x768 .bf16) : Prop where
  hX : ∀ i, IsReal (X i)
  hWq : ∀ i, IsReal (Wq i)
  hK : ∀ i, IsReal (K i)
  ex : ∀ c i, xS m c i = X i
  ew : ∀ c i, wqS m c i = Wq i
  ek : ∀ (c : Dev nD) (b : Fin 2) (j : Fin 512) (h : Fin 8) (d : Fin 64) (hh : 8 * c.val + h.val < 32), kS m c (ix4 b j h d) = K (ix4 b j ⟨8 * c.val + h.val, hh⟩ d)
  ev : ∀ (c : Dev nD) (b : Fin 2) (j : Fin 512) (h : Fin 8) (d : Fin 64) (hh : 8 * c.val + h.val < 32), vS m c (ix4 b j h d) = V (ix4 b j ⟨8 * c.val + h.val, hh⟩ d)
  eo : ∀ c i, woS m c i = Wo i

variable {m} (H : Holds m X Wq K V Wo)
include H

theorem prd_eq (d : Dev nD) (r s : Fin 4) (off : Fin 2 → ℕ) (inb : ∀ a, off a + S256x768.size a ≤ S2048x768.size a)
    (b : Fin 2) (c : Fin 4) (h : Fin 2) (hb : r.val / 2 = b.val) (hh : r.val % 2 = h.val) (hc : org r s d = c)
    (ho : off = ![512 * c.val + 256 * h.val, 0]) (i : Fin 512) (n : Fin 768) :
    prd m d r s off inb (ix2 i n) = part X Wq K V Wo b i n c h := by
  have hc4 : c.val < 4 := c.isLt
  have hl4 : ∀ l : Fin 256, l.val / 64 < 4 := fun l => by omega
  unfold prd part
  rw [prod_apply]
  refine Finset.sum_congr rfl fun l _ => ?_
  rw [slotV_apply, woV_apply m d off inb _ ho l n (by omega), H.eo, hc,
    ctxAt_eq m H.hX H.hWq H.hK c (H.ex c) (H.ew c) (H.ek c) (H.ev c) r i l (by omega) (by have := hl4 l; omega)]
  refine congrArg (· * _) ?_
  refine congr_arg₂ (fun y z => Ref.context X Wq K V y z i _) (Fin.ext hb) (Fin.ext ?_)
  change 8 * c.val + 4 * (r.val % 2) + l.val / 64 = 8 * c.val + 4 * h.val + l.val / 64
  rw [hh]

/-- Eight products are a row of the reference's result. -/
theorem accV_eq (d : Dev nD) (r r' : Fin 4) (b : Fin 2) (hr : r.val / 2 = b.val) (hr' : r'.val / 2 = b.val) (h0 : r.val % 2 = 0) (h1 : r'.val % 2 = 1)
    (i : Fin 512) (n : Fin 768) : accV m d r r' (ix2 i n) = Ref.outV X Wq K V Wo (ix3 b i n) := by
  obtain ⟨a0, a1, a2, a3⟩ := org_even r d h0
  obtain ⟨b0, b1, b2, b3⟩ := org_odd r' d h1
  have hd : d.val < 4 := d.isLt
  have z : (hop d 0).val = d.val := Nat.mod_eq_of_lt hd
  unfold accV
  pointwise []
  rw [prd_eq H d r 0 _ _ b _ 0 hr h0 a0 (by rw [off2_0, z]; rfl), prd_eq H d r' 0 _ _ b _ 1 hr' h1 b0 (by rw [off2_1, z]; rfl),
    prd_eq H d r 1 _ _ b _ 0 hr h0 a1 (off3_0 d), prd_eq H d r' 1 _ _ b _ 1 hr' h1 b1 (off4_0 d),
    prd_eq H d r 2 _ _ b _ 0 hr h0 a2 (off3_1 d), prd_eq H d r' 2 _ _ b _ 1 hr' h1 b2 (off4_1 d),
    prd_eq H d r 3 _ _ b _ 0 hr h0 a3 (off3_2 d), prd_eq H d r' 3 _ _ b _ 1 hr' h1 b3 (off4_2 d), sum_parts]
  have e : ∀ g : Fin 4 → EReal, ∑ c, g c = g (hop d 0) + g (hop d 1) + g (hop d 2) + g (hop d 3) := by
    intro g
    rw [Fin.sum_univ_four]
    have hd' : d = 0 ∨ d = 1 ∨ d = 2 ∨ d = 3 := by
      clear * - d
      revert d; decide
    rcases hd' with rfl | rfl | rfl | rfl
    · rfl
    · change g 0 + g 1 + g 2 + g 3 = g 1 + g 2 + g 3 + g 0; abel
    · change g 0 + g 1 + g 2 + g 3 = g 2 + g 3 + g 0 + g 1; abel
    · change g 0 + g 1 + g 2 + g 3 = g 3 + g 0 + g 1 + g 2; abel
  rw [e]
  simp only [Fin.sum_univ_two]
  abel

/-- The kernel's result is the reference's. -/
theorem outAt_eq (d : Dev nD) (b : Fin 2) (i : Fin 512) (n : Fin 768) : outAt m d (ix3 b i n) = Ref.outV X Wq K V Wo (ix3 b i n) := by
  have e : outAt m d (ix3 b i n) = outV m d b (ixO i n) := rfl
  rw [e, ixO_eq]
  unfold outV
  split
  · rw [outVal_apply]
    exact accV_eq H d 0 1 b (by omega) (by omega) rfl rfl i n
  · rw [outVal_apply]
    have : b.val = 1 := by omega
    exact accV_eq H d 2 3 b this.symm this.symm rfl rfl i n

end Cert.RingAttn

end
-- ==== Proof.Algebra.lean ====
/- The kernel's result against the reference's, from memories that hold the same arrays. -/
module

public import proofs.«01_k».proof.Defs
public import proofs.«01_k».proof.Proof.Frames
public import proofs.«01_k».proof.Proof.KernRead
public import Idealize.ShloMosaic.Lib.ReduceAll

@[expose] public section

noncomputable section

namespace Cert.RingAttn

open Idealize.ShloMosaic Idealize.ShloMosaic.TcCoe Idealize.SL.Sem

/-! ## The precondition -/

/-- The side conditions of the precondition as each program's arguments have it. -/
theorem preK : Cert.Pre_scores_finite_KernelIdeal.Facts := by
  constructor <;> decide
theorem preR : Cert.Pre_scores_finite_ReferenceIdeal.Facts := by
  constructor <;> decide

theorem greatest : Ideal.ofBits .f32 0x7F800000#32 = (⊤ : EReal) := by
  simp [Ideal.ofBits, Ideal.ieee]

theorem of_word (p : Prop) [Decidable p] (e : BitVec.ofBool (decide p) = 1#1) : p := by
  by_contra hn
  rw [decide_eq_false hn] at e
  exact absurd e (by decide)

/-- The precondition's test of one element. -/
theorem real_of_test {S : Shape} (x : FVec Ideal S .bf16) (h : FTy.bits .bf16 < FTy.bits .f32) (g : (⟨0, ![]⟩ : Shape).BroadcastsInDim S ![]) (i : S.Idx)
    (e : cmpf .olt (Host.absf (extf .f32 x h)) (broadcastInDim S ![] g (constant (F := Ideal) ⟨0, ![]⟩ .f32 0x7F800000#32)) i = 1#1) : IsReal (x i) := by
  revert e
  pointwise []
  intro e
  have e1 := of_word _ e
  rw [greatest] at e1
  have e2 : max (x i : EReal) (-(x i : EReal)) < ⊤ := e1
  obtain ⟨h1, h2⟩ := max_lt_iff.mp e2
  refine ⟨_, (EReal.coe_toReal h1.ne ?_).symm⟩
  intro hb
  rw [hb, EReal.neg_bot] at h2
  exact lt_irrefl _ h2

instance : Subsingleton (⟨0, ![]⟩ : Shape).Idx := ⟨fun a b => funext fun i => i.elim0⟩

attribute [local instance] preK preR

theorem pre_real (m : (ℓ : Loc Cert.KernelIdeal.nD Cert.KernelIdeal.τ Cert.KernelIdeal.sig) → Buf (Elt Ideal) ℓ)
    (h : Cert.Pre_KernelIdeal_scores_finite_KernelIdeal m) (c : Dev Cert.KernelIdeal.nD) :
    (∀ i, IsReal (m ((c.tc : Thread Cert.KernelIdeal.nD Cert.KernelIdeal.τ).loc Cert.KernelIdeal.main_arg0) i))
      ∧ (∀ i, IsReal (m ((c.tc : Thread Cert.KernelIdeal.nD Cert.KernelIdeal.τ).loc Cert.KernelIdeal.main_arg1) i))
      ∧ ∀ i, IsReal (m ((c.tc : Thread Cert.KernelIdeal.nD Cert.KernelIdeal.τ).loc Cert.KernelIdeal.main_arg2) i) := by
  have e := congrFun (h c) ix0
  obtain ⟨e1, e3⟩ := IntOp.andi_eq_one.1 e
  obtain ⟨e1, e2⟩ := IntOp.andi_eq_one.1 e1
  exact ⟨fun i => real_of_test _ _ _ i (Host.reduce_andi_all _ _ _ _ _ e1 i), fun i => real_of_test _ _ _ i (Host.reduce_andi_all _ _ _ _ _ e2 i),
    fun i => real_of_test _ _ _ i (Host.reduce_andi_all _ _ _ _ _ e3 i)⟩

/-! ## The two runs -/

/-- Device `c`'s block of an array of heads. -/
theorem block_at (A : FVec Ideal Cert.ReferenceIdeal.S2x512x32x64 .bf16) (c : Dev Cert.KernelIdeal.nD) (b : Fin 2) (j : Fin 512) (h : Fin 8) (d : Fin 64)
    (hh : 8 * c.val + h.val < 32) :
    Layout.block ⟨4, ![2, 512, 8, 64]⟩ ⟨4, ![2, 512, 32, 64]⟩ 2 4 c A (by decide) (ix4 b j h d) = A (ix4 b j ⟨8 * c.val + h.val, hh⟩ d) := by
  rw [Layout.block_apply]
  refine congrArg A (funext fun a => Fin.ext ?_)
  rw [Layout.Tiles.idx_val]
  fin_cases a
  · rfl
  · rfl
  · change c.val * 8 + h.val = 8 * c.val + h.val; omega
  · rfl

/-- The result array at an index. -/
theorem finalA_at (m : (ℓ : Loc Cert.KernelIdeal.nD Cert.KernelIdeal.τ Cert.KernelIdeal.sig) → Buf (Elt Ideal) ℓ) (g : Dev Cert.KernelIdeal.nD → PrngReg)
    (c : Dev Cert.KernelIdeal.nD) (i : Cert.KernelIdeal.S2x512x768.Idx) : finalA m g c (5 : Fin 6) i = outAt m c i := by
  have e := congrFun (finalA_out (F := Ideal) m g c) i
  rw [View.read_apply] at e
  refine Eq.trans (congrArg (finalA m g c (5 : Fin 6)) (funext fun a => Fin.ext ?_)) e
  fin_cases a
  · change (i (0 : Fin 3)).val = 0 + 1 * (i (0 : Fin 3)).val; omega
  · change (i (1 : Fin 3)).val = 0 + 1 * (i (1 : Fin 3)).val; omega
  · change (i (2 : Fin 3)).val = 0 + 1 * (i (2 : Fin 3)).val; omega

/-- From memories that hold the same arrays, the kernel leaves the reference's result on every device. -/
theorem algebraic : Cert.algebraic_KernelIdeal_ReferenceIdeal_pre_scores_finite_KernelIdeal := by
  intro m g m' g' hpre hm
  have hfin := pre_real m hpre
  set c0 : Dev Cert.ReferenceIdeal.nD := 0 with hc0
  have H : Holds m (m' ((c0.tc : Thread Cert.ReferenceIdeal.nD Cert.ReferenceIdeal.τ).loc Cert.ReferenceIdeal.main_arg0))
      (m' ((c0.tc : Thread Cert.ReferenceIdeal.nD Cert.ReferenceIdeal.τ).loc Cert.ReferenceIdeal.main_arg1))
      (m' ((c0.tc : Thread Cert.ReferenceIdeal.nD Cert.ReferenceIdeal.τ).loc Cert.ReferenceIdeal.main_arg2))
      (m' ((c0.tc : Thread Cert.ReferenceIdeal.nD Cert.ReferenceIdeal.τ).loc Cert.ReferenceIdeal.main_arg3))
      (m' ((c0.tc : Thread Cert.ReferenceIdeal.nD Cert.ReferenceIdeal.τ).loc Cert.ReferenceIdeal.main_arg4)) := by
    refine ⟨?_, ?_, ?_, ?_, ?_, ?_, ?_, ?_⟩
    · intro i; rw [← (hm 0).1]; exact (hfin 0).1 i
    · intro i; rw [← (hm 0).2.1]; exact (hfin 0).2.1 i
    · intro i
      have hi2 : (i (2 : Fin 4)).val < 32 := (i (2 : Fin 4)).isLt
      have hd : (i (2 : Fin 4)).val / 8 < 4 := by omega
      have hi8 : 8 * ((i (2 : Fin 4)).val / 8) + (i (2 : Fin 4)).val % 8 < 32 := by omega
      have q := block_at (m' ((c0.tc : Thread Cert.ReferenceIdeal.nD Cert.ReferenceIdeal.τ).loc Cert.ReferenceIdeal.main_arg2)) ⟨_, hd⟩
        (i (0 : Fin 4)) (i (1 : Fin 4)) ⟨(i (2 : Fin 4)).val % 8, by omega⟩ (i (3 : Fin 4)) hi8
      obtain ⟨t, ht⟩ := (hfin ⟨_, hd⟩).2.2 (ix4 (i (0 : Fin 4) : Fin 2) (i (1 : Fin 4) : Fin 512) (⟨(i (2 : Fin 4)).val % 8, by omega⟩ : Fin 8) (i (3 : Fin 4) : Fin 64))
      rw [(hm _).2.2.1] at ht
      refine ⟨t, Eq.trans (congrArg _ (funext fun a => Fin.ext ?_)) (q.symm.trans ht)⟩
      fin_cases a
      · rfl
      · rfl
      · change (i (2 : Fin 4)).val = 8 * ((i (2 : Fin 4)).val / 8) + (i (2 : Fin 4)).val % 8; omega
      · rfl
    · intro c i; rw [xS_eq, (hm c).1]
    · intro c i; rw [wqS_eq, (hm c).2.1]
    · intro c b j h d hh; rw [kS_eq, (hm c).2.2.1]; exact block_at _ c b j h d hh
    · intro c b j h d hh; rw [vS_eq, (hm c).2.2.2.1]; exact block_at _ c b j h d hh
    · intro c i; rw [woS_eq, (hm c).2.2.2.2]
  refine ⟨Cert.ReferenceIdeal.Value.res_main_v49 m' c0, ?_, ?_⟩
  · refine (θ_run _ _ _).mono (fun r h c => ⟨?_, (h.1.1 c).1, (h.1.1 c).2.1, (h.1.1 c).2.2.1, (h.1.1 c).2.2.2.1, (h.1.1 c).2.2.2.2⟩) (run_args (F := Ideal) m g)
    rw [h.2 c, Ref.res_eq]
    refine funext fun i => (finalA_at m g c i).trans ?_
    have hi : i = ix3 (i (0 : Fin 3) : Fin 2) (i (1 : Fin 3) : Fin 512) (i (2 : Fin 3) : Fin 768) := by
      funext a
      fin_cases a <;> rfl
    rw [hi]
    exact outAt_eq H c _ _ _
  · exact (θ_run _ _ _).mono (fun r h => h c0) (Cert.ReferenceIdeal.Value.run (F := Ideal) m' g')

end Cert.RingAttn

end
-- ==== Proof.lean ====
/- The certificate's claim: the frames of the three programs, the idealization's rewrite, and
   the kernel's result against the reference's. -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.ShloMosaic.TcCoe Idealize.SL.Sem

/-- The reference's frame: it is host code without a semaphore. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The mask literal is −∞ by its name, and the printed word without it. -/
theorem mask_named : Cert.preserves_Kernel_KernelIdeal :=
  IdealRules.named_const.statement Cert.KernelIdeal.κ "mask" .f32 0xCE6E6B28#32 ⊥ rfl

/-- The frames hold from every memory, so from those of the precondition. -/
theorem frame_ideal_pre : Cert.quiescent_KernelIdeal_pre_scores_finite_KernelIdeal (hPre_scores_finite_KernelIdeal := Cert.RingAttn.preK) :=
  fun m ρ _ => Cert.RingAttn.frame_ideal m ρ trivial
theorem frame_reference_pre : Cert.quiescent_ReferenceIdeal_pre_scores_finite_ReferenceIdeal (hPre_scores_finite_ReferenceIdeal := Cert.RingAttn.preR) :=
  fun m ρ _ => frame_reference m ρ trivial

theorem claim : Cert.Claim := ⟨Cert.Kernel.Gen.facts, Cert.KernelIdeal.Gen.facts, Cert.ReferenceIdeal.Gen.facts, Cert.RingAttn.preK, Cert.RingAttn.preR,
  Cert.RingAttn.frame_kernel, Cert.RingAttn.frame_ideal, frame_ideal_pre, frame_reference, frame_reference_pre, mask_named, Cert.RingAttn.algebraic⟩

end Cert.Proof

end
